-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 256, 32, 64]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 256, 32, 64]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x2048 : Shape := ⟨2, ![512, 2048]⟩
abbrev S2x256x4x64 : Shape := ⟨4, ![2, 256, 4, 64]⟩
abbrev S2048x512 : Shape := ⟨2, ![2048, 512]⟩
abbrev S_ : Shape := ⟨0, ![]⟩
abbrev S512x256 : Shape := ⟨2, ![512, 256]⟩
abbrev S256x512 : Shape := ⟨2, ![256, 512]⟩
abbrev S512x512 : Shape := ⟨2, ![512, 512]⟩
abbrev S8x64x512 : Shape := ⟨3, ![8, 64, 512]⟩
abbrev S64x512 : Shape := ⟨2, ![64, 512]⟩
abbrev S8 : Shape := ⟨1, ![8]⟩
abbrev S256x256 : Shape := ⟨2, ![256, 256]⟩
abbrev S1x256x512 : Shape := ⟨3, ![1, 256, 512]⟩
abbrev S256x64 : Shape := ⟨2, ![256, 64]⟩
abbrev S1x256x1x64 : Shape := ⟨4, ![1, 256, 1, 64]⟩
abbrev S256 : Shape := ⟨1, ![256]⟩
abbrev S256x1 : Shape := ⟨2, ![256, 1]⟩
abbrev S1 : Shape := ⟨1, ![1]⟩
abbrev S1x64x512 : Shape := ⟨3, ![1, 64, 512]⟩

abbrev nBuf : Space → Nat
  | .hbm => 30
  | .vmem => 10
  | .smem => 0
  | _ => 0

abbrev bufTy : (tb : Table) → Fin (tcTables nBuf tb) → BufTy
  | .hbm, ⟨0, _⟩ => ⟨S2x256x512, .f32⟩
  | .hbm, ⟨1, _⟩ => ⟨S512x2048, .f32⟩
  | .hbm, ⟨2, _⟩ => ⟨S2x256x4x64, .f32⟩
  | .hbm, ⟨3, _⟩ => ⟨S2x256x4x64, .f32⟩
  | .hbm, ⟨4, _⟩ => ⟨S2048x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S256x512, .f32⟩
  | .hbm, ⟨29, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x4x64, .f32⟩
  | .local _ .vmem, ⟨3, _⟩ => ⟨S2x256x4x64, .f32⟩
  | .local _ .vmem, ⟨4, _⟩ => ⟨S256x512, .f32⟩
  | .local _ .vmem, ⟨5, _⟩ => ⟨S2x256x512, .f32⟩
  | .local _ .vmem, ⟨6, _⟩ => ⟨S512x512, .bf16⟩
  | .local _ .vmem, ⟨7, _⟩ => ⟨S8x64x512, .bf16⟩
  | .local _ .vmem, ⟨8, _⟩ => ⟨S64x512, .bf16⟩
  | .local _ .vmem, ⟨9, _⟩ => ⟨S512x512, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_112 : BitVec 32 := 1#32
  let v158 : BitVec 32 := Scalar.addi v2 c1_i32_112
  let c8_i32_113 : BitVec 32 := 8#32
  let v159 : BitVec 32 := Scalar.remsi v158 c8_i32_113
  let c0_i32_114 : BitVec 32 := 0#32
  let v160 : BitVec 1 := Scalar.cmpi .sge v159 c0_i32_114
  let c4_i32_115 : BitVec 32 := 4#32
  let v161 : BitVec 1 := Scalar.cmpi .slt v159 c4_i32_115
  let v162 : BitVec 1 := Scalar.andi v160 v161
  let v163 : BitVec 32 := Scalar.extui v162
  let c0_i32_119 : BitVec 32 := 0#32
  let v164 : BitVec 1 := Scalar.cmpi .ne v163 c0_i32_119
  v164

def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v32 : BitVec 32 := Scalar.addi v2 c1_i32_29
  let c8_i32_30 : BitVec 32 := 8#32
  let v33 : BitVec 32 := Scalar.remsi v32 c8_i32_30
  let c64_i32 : BitVec 32 := 64#32
  let v34 : BitVec 32 := Scalar.muli v33 c64_i32
  let c0_i32_553 : BitVec 32 := 0#32
  ![v34.toNat, 0]
def k0_dev8 (d0 : Dev nD) : Nat :=
  let c0_i32_550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v32 : BitVec 32 := Scalar.addi v2 c1_i32_29
  let c8_i32_30 : BitVec 32 := 8#32
  let v33 : BitVec 32 := Scalar.remsi v32 c8_i32_30
  let c1_i32_549 : BitVec 32 := 1#32
  let v611 : BitVec 32 := Scalar.muli v33 c1_i32_549
  let v612 : BitVec 32 := Scalar.addi c0_i32_550 v611
  v612.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_120 : BitVec 32 := 2#32
  let v165 : BitVec 32 := Scalar.addi v2 c2_i32_120
  let c8_i32_121 : BitVec 32 := 8#32
  let v166 : BitVec 32 := Scalar.remsi v165 c8_i32_121
  let c0_i32_122 : BitVec 32 := 0#32
  let v167 : BitVec 1 := Scalar.cmpi .sge v166 c0_i32_122
  let c4_i32_123 : BitVec 32 := 4#32
  let v168 : BitVec 1 := Scalar.cmpi .slt v166 c4_i32_123
  let v169 : BitVec 1 := Scalar.andi v167 v168
  let v170 : BitVec 32 := Scalar.extui v169
  let c0_i32_127 : BitVec 32 := 0#32
  let v171 : BitVec 1 := Scalar.cmpi .ne v170 c0_i32_127
  v171

def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_31 : BitVec 32 := 2#32
  let v35 : BitVec 32 := Scalar.addi v2 c2_i32_31
  let c8_i32_32 : BitVec 32 := 8#32
  let v36 : BitVec 32 := Scalar.remsi v35 c8_i32_32
  let c64_i32_33 : BitVec 32 := 64#32
  let v37 : BitVec 32 := Scalar.muli v36 c64_i32_33
  let c0_i32_553 : BitVec 32 := 0#32
  ![v37.toNat, 0]
def k0_dev9 (d0 : Dev nD) : Nat :=
  let c0_i32_550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_31 : BitVec 32 := 2#32
  let v35 : BitVec 32 := Scalar.addi v2 c2_i32_31
  let c8_i32_32 : BitVec 32 := 8#32
  let v36 : BitVec 32 := Scalar.remsi v35 c8_i32_32
  let c1_i32_549 : BitVec 32 := 1#32
  let v611 : BitVec 32 := Scalar.muli v36 c1_i32_549
  let v612 : BitVec 32 := Scalar.addi c0_i32_550 v611
  v612.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_128 : BitVec 32 := 3#32
  let v172 : BitVec 32 := Scalar.addi v2 c3_i32_128
  let c8_i32_129 : BitVec 32 := 8#32
  let v173 : BitVec 32 := Scalar.remsi v172 c8_i32_129
  let c0_i32_130 : BitVec 32 := 0#32
  let v174 : BitVec 1 := Scalar.cmpi .sge v173 c0_i32_130
  let c4_i32_131 : BitVec 32 := 4#32
  let v175 : BitVec 1 := Scalar.cmpi .slt v173 c4_i32_131
  let v176 : BitVec 1 := Scalar.andi v174 v175
  let v177 : BitVec 32 := Scalar.extui v176
  let c0_i32_135 : BitVec 32 := 0#32
  let v178 : BitVec 1 := Scalar.cmpi .ne v177 c0_i32_135
  v178

def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_34 : BitVec 32 := 3#32
  let v38 : BitVec 32 := Scalar.addi v2 c3_i32_34
  let c8_i32_35 : BitVec 32 := 8#32
  let v39 : BitVec 32 := Scalar.remsi v38 c8_i32_35
  let c64_i32_36 : BitVec 32 := 64#32
  let v40 : BitVec 32 := Scalar.muli v39 c64_i32_36
  let c0_i32_553 : BitVec 32 := 0#32
  ![v40.toNat, 0]
def k0_dev10 (d0 : Dev nD) : Nat :=
  let c0_i32_550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_34 : BitVec 32 := 3#32
  let v38 : BitVec 32 := Scalar.addi v2 c3_i32_34
  let c8_i32_35 : BitVec 32 := 8#32
  let v39 : BitVec 32 := Scalar.remsi v38 c8_i32_35
  let c1_i32_549 : BitVec 32 := 1#32
  let v611 : BitVec 32 := Scalar.muli v39 c1_i32_549
  let v612 : BitVec 32 := Scalar.addi c0_i32_550 v611
  v612.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_136 : BitVec 32 := 4#32
  let v179 : BitVec 32 := Scalar.addi v2 c4_i32_136
  let c8_i32_137 : BitVec 32 := 8#32
  let v180 : BitVec 32 := Scalar.remsi v179 c8_i32_137
  let c0_i32_138 : BitVec 32 := 0#32
  let v181 : BitVec 1 := Scalar.cmpi .sge v180 c0_i32_138
  let c4_i32_139 : BitVec 32 := 4#32
  let v182 : BitVec 1 := Scalar.cmpi .slt v180 c4_i32_139
  let v183 : BitVec 1 := Scalar.andi v181 v182
  let v184 : BitVec 32 := Scalar.extui v183
  let c0_i32_143 : BitVec 32 := 0#32
  let v185 : BitVec 1 := Scalar.cmpi .ne v184 c0_i32_143
  v185

def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_37 : BitVec 32 := 4#32
  let v41 : BitVec 32 := Scalar.addi v2 c4_i32_37
  let c8_i32_38 : BitVec 32 := 8#32
  let v42 : BitVec 32 := Scalar.remsi v41 c8_i32_38
  let c64_i32_39 : BitVec 32 := 64#32
  let v43 : BitVec 32 := Scalar.muli v42 c64_i32_39
  let c0_i32_553 : BitVec 32 := 0#32
  ![v43.toNat, 0]
def k0_dev11 (d0 : Dev nD) : Nat :=
  let c0_i32_550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_37 : BitVec 32 := 4#32
  let v41 : BitVec 32 := Scalar.addi v2 c4_i32_37
  let c8_i32_38 : BitVec 32 := 8#32
  let v42 : BitVec 32 := Scalar.remsi v41 c8_i32_38
  let c1_i32_549 : BitVec 32 := 1#32
  let v611 : BitVec 32 := Scalar.muli v42 c1_i32_549
  let v612 : BitVec 32 := Scalar.addi c0_i32_550 v611
  v612.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_144 : BitVec 32 := 5#32
  let v186 : BitVec 32 := Scalar.addi v2 c5_i32_144
  let c8_i32_145 : BitVec 32 := 8#32
  let v187 : BitVec 32 := Scalar.remsi v186 c8_i32_145
  let c0_i32_146 : BitVec 32 := 0#32
  let v188 : BitVec 1 := Scalar.cmpi .sge v187 c0_i32_146
  let c4_i32_147 : BitVec 32 := 4#32
  let v189 : BitVec 1 := Scalar.cmpi .slt v187 c4_i32_147
  let v190 : BitVec 1 := Scalar.andi v188 v189
  let v191 : BitVec 32 := Scalar.extui v190
  let c0_i32_151 : BitVec 32 := 0#32
  let v192 : BitVec 1 := Scalar.cmpi .ne v191 c0_i32_151
  v192

def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_40 : BitVec 32 := 5#32
  let v44 : BitVec 32 := Scalar.addi v2 c5_i32_40
  let c8_i32_41 : BitVec 32 := 8#32
  let v45 : BitVec 32 := Scalar.remsi v44 c8_i32_41
  let c64_i32_42 : BitVec 32 := 64#32
  let v46 : BitVec 32 := Scalar.muli v45 c64_i32_42
  let c0_i32_553 : BitVec 32 := 0#32
  ![v46.toNat, 0]
def k0_dev12 (d0 : Dev nD) : Nat :=
  let c0_i32_550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_40 : BitVec 32 := 5#32
  let v44 : BitVec 32 := Scalar.addi v2 c5_i32_40
  let c8_i32_41 : BitVec 32 := 8#32
  let v45 : BitVec 32 := Scalar.remsi v44 c8_i32_41
  let c1_i32_549 : BitVec 32 := 1#32
  let v611 : BitVec 32 := Scalar.muli v45 c1_i32_549
  let v612 : BitVec 32 := Scalar.addi c0_i32_550 v611
  v612.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_152 : BitVec 32 := 6#32
  let v193 : BitVec 32 := Scalar.addi v2 c6_i32_152
  let c8_i32_153 : BitVec 32 := 8#32
  let v194 : BitVec 32 := Scalar.remsi v193 c8_i32_153
  let c0_i32_154 : BitVec 32 := 0#32
  let v195 : BitVec 1 := Scalar.cmpi .sge v194 c0_i32_154
  let c4_i32_155 : BitVec 32 := 4#32
  let v196 : BitVec 1 := Scalar.cmpi .slt v194 c4_i32_155
  let v197 : BitVec 1 := Scalar.andi v195 v196
  let v198 : BitVec 32 := Scalar.extui v197
  let c0_i32_159 : BitVec 32 := 0#32
  let v199 : BitVec 1 := Scalar.cmpi .ne v198 c0_i32_159
  v199

def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_43 : BitVec 32 := 6#32
  let v47 : BitVec 32 := Scalar.addi v2 c6_i32_43
  let c8_i32_44 : BitVec 32 := 8#32
  let v48 : BitVec 32 := Scalar.remsi v47 c8_i32_44
  let c64_i32_45 : BitVec 32 := 64#32
  let v49 : BitVec 32 := Scalar.muli v48 c64_i32_45
  let c0_i32_553 : BitVec 32 := 0#32
  ![v49.toNat, 0]
def k0_dev13 (d0 : Dev nD) : Nat :=
  let c0_i32_550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_43 : BitVec 32 := 6#32
  let v47 : BitVec 32 := Scalar.addi v2 c6_i32_43
  let c8_i32_44 : BitVec 32 := 8#32
  let v48 : BitVec 32 := Scalar.remsi v47 c8_i32_44
  let c1_i32_549 : BitVec 32 := 1#32
  let v611 : BitVec 32 := Scalar.muli v48 c1_i32_549
  let v612 : BitVec 32 := Scalar.addi c0_i32_550 v611
  v612.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_160 : BitVec 32 := 7#32
  let v200 : BitVec 32 := Scalar.addi v2 c7_i32_160
  let c8_i32_161 : BitVec 32 := 8#32
  let v201 : BitVec 32 := Scalar.remsi v200 c8_i32_161
  let c0_i32_162 : BitVec 32 := 0#32
  let v202 : BitVec 1 := Scalar.cmpi .sge v201 c0_i32_162
  let c4_i32_163 : BitVec 32 := 4#32
  let v203 : BitVec 1 := Scalar.cmpi .slt v201 c4_i32_163
  let v204 : BitVec 1 := Scalar.andi v202 v203
  let v205 : BitVec 32 := Scalar.extui v204
  let c0_i32_167 : BitVec 32 := 0#32
  let v206 : BitVec 1 := Scalar.cmpi .ne v205 c0_i32_167
  v206

def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_46 : BitVec 32 := 7#32
  let v50 : BitVec 32 := Scalar.addi v2 c7_i32_46
  let c8_i32_47 : BitVec 32 := 8#32
  let v51 : BitVec 32 := Scalar.remsi v50 c8_i32_47
  let c64_i32_48 : BitVec 32 := 64#32
  let v52 : BitVec 32 := Scalar.muli v51 c64_i32_48
  let c0_i32_553 : BitVec 32 := 0#32
  ![v52.toNat, 0]
def k0_dev14 (d0 : Dev nD) : Nat :=
  let c0_i32_550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_46 : BitVec 32 := 7#32
  let v50 : BitVec 32 := Scalar.addi v2 c7_i32_46
  let c8_i32_47 : BitVec 32 := 8#32
  let v51 : BitVec 32 := Scalar.remsi v50 c8_i32_47
  let c1_i32_549 : BitVec 32 := 1#32
  let v611 : BitVec 32 := Scalar.muli v51 c1_i32_549
  let v612 : BitVec 32 := Scalar.addi c0_i32_550 v611
  v612.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_234 : BitVec 32 := 1#32
  let v300 : BitVec 32 := Scalar.addi v2 c1_i32_234
  let c8_i32_235 : BitVec 32 := 8#32
  let v301 : BitVec 32 := Scalar.remsi v300 c8_i32_235
  let c4_i32_236 : BitVec 32 := 4#32
  let v302 : BitVec 1 := Scalar.cmpi .sge v301 c4_i32_236
  let c8_i32_237 : BitVec 32 := 8#32
  let v303 : BitVec 1 := Scalar.cmpi .slt v301 c8_i32_237
  let v304 : BitVec 1 := Scalar.andi v302 v303
  let v305 : BitVec 32 := Scalar.extui v304
  let c0_i32_241 : BitVec 32 := 0#32
  let v306 : BitVec 1 := Scalar.cmpi .ne v305 c0_i32_241
  v306

def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v32 : BitVec 32 := Scalar.addi v2 c1_i32_29
  let c8_i32_30 : BitVec 32 := 8#32
  let v33 : BitVec 32 := Scalar.remsi v32 c8_i32_30
  let c64_i32 : BitVec 32 := 64#32
  let v34 : BitVec 32 := Scalar.muli v33 c64_i32
  let c0_i32_553 : BitVec 32 := 0#32
  ![v34.toNat, 0]
def k0_dev15 (d0 : Dev nD) : Nat :=
  let c0_i32_550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v32 : BitVec 32 := Scalar.addi v2 c1_i32_29
  let c8_i32_30 : BitVec 32 := 8#32
  let v33 : BitVec 32 := Scalar.remsi v32 c8_i32_30
  let c1_i32_549 : BitVec 32 := 1#32
  let v611 : BitVec 32 := Scalar.muli v33 c1_i32_549
  let v612 : BitVec 32 := Scalar.addi c0_i32_550 v611
  v612.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_242 : BitVec 32 := 2#32
  let v307 : BitVec 32 := Scalar.addi v2 c2_i32_242
  let c8_i32_243 : BitVec 32 := 8#32
  let v308 : BitVec 32 := Scalar.remsi v307 c8_i32_243
  let c4_i32_244 : BitVec 32 := 4#32
  let v309 : BitVec 1 := Scalar.cmpi .sge v308 c4_i32_244
  let c8_i32_245 : BitVec 32 := 8#32
  let v310 : BitVec 1 := Scalar.cmpi .slt v308 c8_i32_245
  let v311 : BitVec 1 := Scalar.andi v309 v310
  let v312 : BitVec 32 := Scalar.extui v311
  let c0_i32_249 : BitVec 32 := 0#32
  let v313 : BitVec 1 := Scalar.cmpi .ne v312 c0_i32_249
  v313

def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_31 : BitVec 32 := 2#32
  let v35 : BitVec 32 := Scalar.addi v2 c2_i32_31
  let c8_i32_32 : BitVec 32 := 8#32
  let v36 : BitVec 32 := Scalar.remsi v35 c8_i32_32
  let c64_i32_33 : BitVec 32 := 64#32
  let v37 : BitVec 32 := Scalar.muli v36 c64_i32_33
  let c0_i32_553 : BitVec 32 := 0#32
  ![v37.toNat, 0]
def k0_dev16 (d0 : Dev nD) : Nat :=
  let c0_i32_550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_31 : BitVec 32 := 2#32
  let v35 : BitVec 32 := Scalar.addi v2 c2_i32_31
  let c8_i32_32 : BitVec 32 := 8#32
  let v36 : BitVec 32 := Scalar.remsi v35 c8_i32_32
  let c1_i32_549 : BitVec 32 := 1#32
  let v611 : BitVec 32 := Scalar.muli v36 c1_i32_549
  let v612 : BitVec 32 := Scalar.addi c0_i32_550 v611
  v612.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_250 : BitVec 32 := 3#32
  let v314 : BitVec 32 := Scalar.addi v2 c3_i32_250
  let c8_i32_251 : BitVec 32 := 8#32
  let v315 : BitVec 32 := Scalar.remsi v314 c8_i32_251
  let c4_i32_252 : BitVec 32 := 4#32
  let v316 : BitVec 1 := Scalar.cmpi .sge v315 c4_i32_252
  let c8_i32_253 : BitVec 32 := 8#32
  let v317 : BitVec 1 := Scalar.cmpi .slt v315 c8_i32_253
  let v318 : BitVec 1 := Scalar.andi v316 v317
  let v319 : BitVec 32 := Scalar.extui v318
  let c0_i32_257 : BitVec 32 := 0#32
  let v320 : BitVec 1 := Scalar.cmpi .ne v319 c0_i32_257
  v320

def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_34 : BitVec 32 := 3#32
  let v38 : BitVec 32 := Scalar.addi v2 c3_i32_34
  let c8_i32_35 : BitVec 32 := 8#32
  let v39 : BitVec 32 := Scalar.remsi v38 c8_i32_35
  let c64_i32_36 : BitVec 32 := 64#32
  let v40 : BitVec 32 := Scalar.muli v39 c64_i32_36
  let c0_i32_553 : BitVec 32 := 0#32
  ![v40.toNat, 0]
def k0_dev17 (d0 : Dev nD) : Nat :=
  let c0_i32_550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_34 : BitVec 32 := 3#32
  let v38 : BitVec 32 := Scalar.addi v2 c3_i32_34
  let c8_i32_35 : BitVec 32 := 8#32
  let v39 : BitVec 32 := Scalar.remsi v38 c8_i32_35
  let c1_i32_549 : BitVec 32 := 1#32
  let v611 : BitVec 32 := Scalar.muli v39 c1_i32_549
  let v612 : BitVec 32 := Scalar.addi c0_i32_550 v611
  v612.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_258 : BitVec 32 := 4#32
  let v321 : BitVec 32 := Scalar.addi v2 c4_i32_258
  let c8_i32_259 : BitVec 32 := 8#32
  let v322 : BitVec 32 := Scalar.remsi v321 c8_i32_259
  let c4_i32_260 : BitVec 32 := 4#32
  let v323 : BitVec 1 := Scalar.cmpi .sge v322 c4_i32_260
  let c8_i32_261 : BitVec 32 := 8#32
  let v324 : BitVec 1 := Scalar.cmpi .slt v322 c8_i32_261
  let v325 : BitVec 1 := Scalar.andi v323 v324
  let v326 : BitVec 32 := Scalar.extui v325
  let c0_i32_265 : BitVec 32 := 0#32
  let v327 : BitVec 1 := Scalar.cmpi .ne v326 c0_i32_265
  v327

def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_37 : BitVec 32 := 4#32
  let v41 : BitVec 32 := Scalar.addi v2 c4_i32_37
  let c8_i32_38 : BitVec 32 := 8#32
  let v42 : BitVec 32 := Scalar.remsi v41 c8_i32_38
  let c64_i32_39 : BitVec 32 := 64#32
  let v43 : BitVec 32 := Scalar.muli v42 c64_i32_39
  let c0_i32_553 : BitVec 32 := 0#32
  ![v43.toNat, 0]
def k0_dev18 (d0 : Dev nD) : Nat :=
  let c0_i32_550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_37 : BitVec 32 := 4#32
  let v41 : BitVec 32 := Scalar.addi v2 c4_i32_37
  let c8_i32_38 : BitVec 32 := 8#32
  let v42 : BitVec 32 := Scalar.remsi v41 c8_i32_38
  let c1_i32_549 : BitVec 32 := 1#32
  let v611 : BitVec 32 := Scalar.muli v42 c1_i32_549
  let v612 : BitVec 32 := Scalar.addi c0_i32_550 v611
  v612.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_266 : BitVec 32 := 5#32
  let v328 : BitVec 32 := Scalar.addi v2 c5_i32_266
  let c8_i32_267 : BitVec 32 := 8#32
  let v329 : BitVec 32 := Scalar.remsi v328 c8_i32_267
  let c4_i32_268 : BitVec 32 := 4#32
  let v330 : BitVec 1 := Scalar.cmpi .sge v329 c4_i32_268
  let c8_i32_269 : BitVec 32 := 8#32
  let v331 : BitVec 1 := Scalar.cmpi .slt v329 c8_i32_269
  let v332 : BitVec 1 := Scalar.andi v330 v331
  let v333 : BitVec 32 := Scalar.extui v332
  let c0_i32_273 : BitVec 32 := 0#32
  let v334 : BitVec 1 := Scalar.cmpi .ne v333 c0_i32_273
  v334

def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_40 : BitVec 32 := 5#32
  let v44 : BitVec 32 := Scalar.addi v2 c5_i32_40
  let c8_i32_41 : BitVec 32 := 8#32
  let v45 : BitVec 32 := Scalar.remsi v44 c8_i32_41
  let c64_i32_42 : BitVec 32 := 64#32
  let v46 : BitVec 32 := Scalar.muli v45 c64_i32_42
  let c0_i32_553 : BitVec 32 := 0#32
  ![v46.toNat, 0]
def k0_dev19 (d0 : Dev nD) : Nat :=
  let c0_i32_550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_40 : BitVec 32 := 5#32
  let v44 : BitVec 32 := Scalar.addi v2 c5_i32_40
  let c8_i32_41 : BitVec 32 := 8#32
  let v45 : BitVec 32 := Scalar.remsi v44 c8_i32_41
  let c1_i32_549 : BitVec 32 := 1#32
  let v611 : BitVec 32 := Scalar.muli v45 c1_i32_549
  let v612 : BitVec 32 := Scalar.addi c0_i32_550 v611
  v612.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_274 : BitVec 32 := 6#32
  let v335 : BitVec 32 := Scalar.addi v2 c6_i32_274
  let c8_i32_275 : BitVec 32 := 8#32
  let v336 : BitVec 32 := Scalar.remsi v335 c8_i32_275
  let c4_i32_276 : BitVec 32 := 4#32
  let v337 : BitVec 1 := Scalar.cmpi .sge v336 c4_i32_276
  let c8_i32_277 : BitVec 32 := 8#32
  let v338 : BitVec 1 := Scalar.cmpi .slt v336 c8_i32_277
  let v339 : BitVec 1 := Scalar.andi v337 v338
  let v340 : BitVec 32 := Scalar.extui v339
  let c0_i32_281 : BitVec 32 := 0#32
  let v341 : BitVec 1 := Scalar.cmpi .ne v340 c0_i32_281
  v341

def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_43 : BitVec 32 := 6#32
  let v47 : BitVec 32 := Scalar.addi v2 c6_i32_43
  let c8_i32_44 : BitVec 32 := 8#32
  let v48 : BitVec 32 := Scalar.remsi v47 c8_i32_44
  let c64_i32_45 : BitVec 32 := 64#32
  let v49 : BitVec 32 := Scalar.muli v48 c64_i32_45
  let c0_i32_553 : BitVec 32 := 0#32
  ![v49.toNat, 0]
def k0_dev20 (d0 : Dev nD) : Nat :=
  let c0_i32_550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_43 : BitVec 32 := 6#32
  let v47 : BitVec 32 := Scalar.addi v2 c6_i32_43
  let c8_i32_44 : BitVec 32 := 8#32
  let v48 : BitVec 32 := Scalar.remsi v47 c8_i32_44
  let c1_i32_549 : BitVec 32 := 1#32
  let v611 : BitVec 32 := Scalar.muli v48 c1_i32_549
  let v612 : BitVec 32 := Scalar.addi c0_i32_550 v611
  v612.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_282 : BitVec 32 := 7#32
  let v342 : BitVec 32 := Scalar.addi v2 c7_i32_282
  let c8_i32_283 : BitVec 32 := 8#32
  let v343 : BitVec 32 := Scalar.remsi v342 c8_i32_283
  let c4_i32_284 : BitVec 32 := 4#32
  let v344 : BitVec 1 := Scalar.cmpi .sge v343 c4_i32_284
  let c8_i32_285 : BitVec 32 := 8#32
  let v345 : BitVec 1 := Scalar.cmpi .slt v343 c8_i32_285
  let v346 : BitVec 1 := Scalar.andi v344 v345
  let v347 : BitVec 32 := Scalar.extui v346
  let c0_i32_289 : BitVec 32 := 0#32
  let v348 : BitVec 1 := Scalar.cmpi .ne v347 c0_i32_289
  v348

def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_46 : BitVec 32 := 7#32
  let v50 : BitVec 32 := Scalar.addi v2 c7_i32_46
  let c8_i32_47 : BitVec 32 := 8#32
  let v51 : BitVec 32 := Scalar.remsi v50 c8_i32_47
  let c64_i32_48 : BitVec 32 := 64#32
  let v52 : BitVec 32 := Scalar.muli v51 c64_i32_48
  let c0_i32_553 : BitVec 32 := 0#32
  ![v52.toNat, 0]
def k0_dev21 (d0 : Dev nD) : Nat :=
  let c0_i32_550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_46 : BitVec 32 := 7#32
  let v50 : BitVec 32 := Scalar.addi v2 c7_i32_46
  let c8_i32_47 : BitVec 32 := 8#32
  let v51 : BitVec 32 := Scalar.remsi v50 c8_i32_47
  let c1_i32_549 : BitVec 32 := 1#32
  let v611 : BitVec 32 := Scalar.muli v51 c1_i32_549
  let v612 : BitVec 32 := Scalar.addi c0_i32_550 v611
  v612.toNat
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_290 : BitVec 32 := 64#32
  let v349 : BitVec 32 := Scalar.muli v2 c64_i32_290
  let v350 : Index := Scalar.indexCast v349
  let c0_291 : Index := 0#32
  ![v350.toNat, 0]
def k0_off16 (d0 : Dev nD) (c1_i32_29 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : BitVec 32 := Scalar.addi v2 c1_i32_29
  let c8_i32_30 : BitVec 32 := 8#32
  let v33 : BitVec 32 := Scalar.remsi v32 c8_i32_30
  let c64_i32 : BitVec 32 := 64#32
  let v34 : BitVec 32 := Scalar.muli v33 c64_i32
  let c0_i32_299 : BitVec 32 := 0#32
  ![v34.toNat, 0]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_369 : BitVec 32 := 64#32
  let v436 : BitVec 32 := Scalar.muli v2 c64_i32_369
  let c0_i32_374 : BitVec 32 := 0#32
  ![v436.toNat, 0]
def k0_dev22 (d0 : Dev nD) : Nat :=
  let c0_i32_373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_367 : BitVec 32 := 1#32
  let v434 : BitVec 32 := Scalar.addi v2 c1_i32_367
  let c8_i32_368 : BitVec 32 := 8#32
  let v435 : BitVec 32 := Scalar.remsi v434 c8_i32_368
  let c1_i32_372 : BitVec 32 := 1#32
  let v437 : BitVec 32 := Scalar.muli v435 c1_i32_372
  let v438 : BitVec 32 := Scalar.addi c0_i32_373 v437
  v438.toNat
def k0_dev23 (d0 : Dev nD) : Nat :=
  let c0_i32_381 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_375 : BitVec 32 := 2#32
  let v444 : BitVec 32 := Scalar.addi v2 c2_i32_375
  let c8_i32_376 : BitVec 32 := 8#32
  let v445 : BitVec 32 := Scalar.remsi v444 c8_i32_376
  let c1_i32_380 : BitVec 32 := 1#32
  let v447 : BitVec 32 := Scalar.muli v445 c1_i32_380
  let v448 : BitVec 32 := Scalar.addi c0_i32_381 v447
  v448.toNat
def k0_dev24 (d0 : Dev nD) : Nat :=
  let c0_i32_389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_383 : BitVec 32 := 3#32
  let v454 : BitVec 32 := Scalar.addi v2 c3_i32_383
  let c8_i32_384 : BitVec 32 := 8#32
  let v455 : BitVec 32 := Scalar.remsi v454 c8_i32_384
  let c1_i32_388 : BitVec 32 := 1#32
  let v457 : BitVec 32 := Scalar.muli v455 c1_i32_388
  let v458 : BitVec 32 := Scalar.addi c0_i32_389 v457
  v458.toNat
def k0_dev25 (d0 : Dev nD) : Nat :=
  let c0_i32_397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_391 : BitVec 32 := 4#32
  let v464 : BitVec 32 := Scalar.addi v2 c4_i32_391
  let c8_i32_392 : BitVec 32 := 8#32
  let v465 : BitVec 32 := Scalar.remsi v464 c8_i32_392
  let c1_i32_396 : BitVec 32 := 1#32
  let v467 : BitVec 32 := Scalar.muli v465 c1_i32_396
  let v468 : BitVec 32 := Scalar.addi c0_i32_397 v467
  v468.toNat
def k0_dev26 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_399 : BitVec 32 := 5#32
  let v474 : BitVec 32 := Scalar.addi v2 c5_i32_399
  let c8_i32_400 : BitVec 32 := 8#32
  let v475 : BitVec 32 := Scalar.remsi v474 c8_i32_400
  let c1_i32_404 : BitVec 32 := 1#32
  let v477 : BitVec 32 := Scalar.muli v475 c1_i32_404
  let v478 : BitVec 32 := Scalar.addi c0_i32_405 v477
  v478.toNat
def k0_dev27 (d0 : Dev nD) : Nat :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_407 : BitVec 32 := 6#32
  let v484 : BitVec 32 := Scalar.addi v2 c6_i32_407
  let c8_i32_408 : BitVec 32 := 8#32
  let v485 : BitVec 32 := Scalar.remsi v484 c8_i32_408
  let c1_i32_412 : BitVec 32 := 1#32
  let v487 : BitVec 32 := Scalar.muli v485 c1_i32_412
  let v488 : BitVec 32 := Scalar.addi c0_i32_413 v487
  v488.toNat
def k0_dev28 (d0 : Dev nD) : Nat :=
  let c0_i32_421 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_415 : BitVec 32 := 7#32
  let v494 : BitVec 32 := Scalar.addi v2 c7_i32_415
  let c8_i32_416 : BitVec 32 := 8#32
  let v495 : BitVec 32 := Scalar.remsi v494 c8_i32_416
  let c1_i32_420 : BitVec 32 := 1#32
  let v497 : BitVec 32 := Scalar.muli v495 c1_i32_420
  let v498 : BitVec 32 := Scalar.addi c0_i32_421 v497
  v498.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x2048 : Shape := ⟨2, ![512, 2048]⟩
abbrev S2x256x32x64 : Shape := ⟨4, ![2, 256, 32, 64]⟩
abbrev S2048x512 : Shape := ⟨2, ![2048, 512]⟩
abbrev S2x256x2048 : Shape := ⟨3, ![2, 256, 2048]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2x32x256x256 : Shape := ⟨4, ![2, 32, 256, 256]⟩
abbrev S1x1x256x256 : Shape := ⟨4, ![1, 1, 256, 256]⟩
abbrev S2x32x256 : Shape := ⟨3, ![2, 32, 256]⟩
abbrev S2x32x256x1 : Shape := ⟨4, ![2, 32, 256, 1]⟩
abbrev S1x1x256x1 : Shape := ⟨4, ![1, 1, 256, 1]⟩
abbrev S2x32x64x256 : Shape := ⟨4, ![2, 32, 64, 256]⟩

abbrev nBuf : Space → Nat
  | .hbm => 67
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x2048, .f32⟩
  | .hbm, ⟨2, _⟩ => ⟨S2x256x32x64, .f32⟩
  | .hbm, ⟨3, _⟩ => ⟨S2x256x32x64, .f32⟩
  | .hbm, ⟨4, _⟩ => ⟨S2048x512, .f32⟩
  | .hbm, ⟨5, _⟩ => ⟨S2x256x2048, .f32⟩
  | .hbm, ⟨6, _⟩ => ⟨S2x256x32x64, .f32⟩
  | .hbm, ⟨7, _⟩ => ⟨S256, .i32⟩
  | .hbm, ⟨8, _⟩ => ⟨S256x1, .i32⟩
  | .hbm, ⟨9, _⟩ => ⟨S256, .i32⟩
  | .hbm, ⟨10, _⟩ => ⟨S1x256, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S_, .i32⟩
  | .hbm, ⟨19, _⟩ => ⟨S1x256, .i32⟩
  | .hbm, ⟨20, _⟩ => ⟨S1x256, .i1⟩
  | .hbm, ⟨21, _⟩ => ⟨S_, .i32⟩
  | .hbm, ⟨22, _⟩ => ⟨S256x1, .i32⟩
  | .hbm, ⟨23, _⟩ => ⟨S256x1, .i1⟩
  | .hbm, ⟨24, _⟩ => ⟨S256x256, .i1⟩
  | .hbm, ⟨25, _⟩ => ⟨S256x256, .i1⟩
  | .hbm, ⟨26, _⟩ => ⟨S256x256, .i1⟩
  | .hbm, ⟨27, _⟩ => ⟨S256x256, .i1⟩
  | .hbm, ⟨28, _⟩ => ⟨S2x32x256x256, .f32⟩
  | .hbm, ⟨29, _⟩ => ⟨S_, .f32⟩
  | .hbm, ⟨30, _⟩ => ⟨S2x32x256x256, .f32⟩
  | .hbm, ⟨31, _⟩ => ⟨S2x32x256x256, .f32⟩
  | .hbm, ⟨32, _⟩ => ⟨S1x1x256x256, .i1⟩
  | .hbm, ⟨33, _⟩ => ⟨S_, .f32⟩
  | .hbm, ⟨34, _⟩ => ⟨S_, .f32⟩
  | .hbm, ⟨35, _⟩ => ⟨S2x32x256x256, .i1⟩
  | .hbm, ⟨36, _⟩ => ⟨S2x32x256x256, .f32⟩
  | .hbm, ⟨37, _⟩ => ⟨S2x32x256x256, .f32⟩
  | .hbm, ⟨38, _⟩ => ⟨S_, .f32⟩
  | .hbm, ⟨39, _⟩ => ⟨S2x32x256, .f32⟩
  | .hbm, ⟨40, _⟩ => ⟨S2x32x256x1, .f32⟩
  | .hbm, ⟨41, _⟩ => ⟨S2x32x256x256, .f32⟩
  | .hbm, ⟨42, _⟩ => ⟨S2x32x256x256, .f32⟩
  | .hbm, ⟨43, _⟩ => ⟨S2x32x256x256, .f32⟩
  | .hbm, ⟨44, _⟩ => ⟨S_, .i1⟩
  | .hbm, ⟨45, _⟩ => ⟨S256, .i1⟩
  | .hbm, ⟨46, _⟩ => ⟨S1x1x256x1, .i1⟩
  | .hbm, ⟨47, _⟩ => ⟨S_, .f32⟩
  | .hbm, ⟨48, _⟩ => ⟨S2x32x256, .f32⟩
  | .hbm, ⟨49, _⟩ => ⟨S2x32x256x1, .f32⟩
  | .hbm, ⟨50, _⟩ => ⟨S_, .f32⟩
  | .hbm, ⟨51, _⟩ => ⟨S_, .f32⟩
  | .hbm, ⟨52, _⟩ => ⟨S2x32x256x1, .i1⟩
  | .hbm, ⟨53, _⟩ => ⟨S2x32x256x1, .f32⟩
  | .hbm, ⟨54, _⟩ => ⟨S2x32x256x1, .f32⟩
  | .hbm, ⟨55, _⟩ => ⟨S2x32x256x256, .f32⟩
  | .hbm, ⟨56, _⟩ => ⟨S2x32x256x256, .f32⟩
  | .hbm, ⟨57, _⟩ => ⟨S1x1x256x1, .i1⟩
  | .hbm, ⟨58, _⟩ => ⟨S_, .f32⟩
  | .hbm, ⟨59, _⟩ => ⟨S_, .f32⟩
  | .hbm, ⟨60, _⟩ => ⟨S2x32x256x256, .i1⟩
  | .hbm, ⟨61, _⟩ => ⟨S2x32x256x256, .f32⟩
  | .hbm, ⟨62, _⟩ => ⟨S2x32x256x256, .f32⟩
  | .hbm, ⟨63, _⟩ => ⟨S2x32x64x256, .f32⟩
  | .hbm, ⟨64, _⟩ => ⟨S2x256x32x64, .f32⟩
  | .hbm, ⟨65, _⟩ => ⟨S2x256x2048, .f32⟩
  | .hbm, ⟨66, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.Protocol.lean ====
/-
The protocol of the kernel: eight devices in a full exchange, two rounds of seven addressed copies each.

Slots are numbered `j : Fin 8`; slot 0 is the device itself and carries no message. Device `c` sends its message of
slot `j` to its peer `pe c j` (the device `j` places after it), and what arrives in its own slot `j` comes from `og c j`
(the device `j` places before it).

Cells of a device:
* its barrier cell: one unit from every other device, handing over the landing slot and the landing rows that device
  will be written at;
* `own 0 j`, `own 1 j`: the send and receive semaphores of the first exchange (rows of the partial product);
* `own 2 j`, `own 3 j`: those of the second exchange (the reduced rows).

Everything is stated over the partial products `P c` of the devices as an unknown; the schedule only says how the
rows of `P` travel.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Rounds
public import Idealize.ShloMosaic.Lib.ShareLeaves
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state: the pipeline's copy and the exchange's -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Peers -/

set_option backward.proofsInPublic true in
/-- The device `j` places after `c`. -/
def pe (c : Dev nD) (j : Fin 8) : Dev nD := ⟨(c.val + j.val) % 8, Nat.mod_lt _ (by decide)⟩
set_option backward.proofsInPublic true in
/-- The device `j` places before `c`. -/
def og (c : Dev nD) (j : Fin 8) : Dev nD := ⟨(c.val + (8 - j.val)) % 8, Nat.mod_lt _ (by decide)⟩
set_option backward.proofsInPublic true in
/-- The slot a device names another by, seen from the other side. -/
def ng (j : Fin 8) : Fin 8 := ⟨(8 - j.val) % 8, Nat.mod_lt _ (by decide)⟩

theorem pe_og (c : Dev nD) (j : Fin 8) : pe (og c j) j = c := by revert c j; decide
theorem og_pe (c : Dev nD) (j : Fin 8) : og (pe c j) j = c := by revert c j; decide
theorem pe_pe_ng (c : Dev nD) (j : Fin 8) : pe (pe c j) (ng j) = c := by revert c j; decide
theorem pe_ng (c : Dev nD) (j : Fin 8) : pe c (ng j) = og c j := by revert c j; decide
theorem ng_ng (j : Fin 8) : ng (ng j) = j := by revert j; decide
theorem ng_ne (j : Fin 8) (h : j ≠ 0) : ng j ≠ 0 := by revert j; decide
theorem pe_zero (c : Dev nD) : pe c 0 = c := by revert c; decide
theorem og_zero (c : Dev nD) : og c 0 = c := by revert c; decide

/-- Going `j` places on, for all `j` at once or for all devices at once, permutes. -/
def peAll (c : Dev nD) : Fin 8 ≃ Dev nD :=
  ⟨pe c, fun d => ⟨(d.val + (8 - c.val)) % 8, Nat.mod_lt _ (by decide)⟩, by revert c; decide, by revert c; decide⟩
def peOn (j : Fin 8) : Dev nD ≃ Dev nD := ⟨fun c => pe c j, fun c => og c j, fun c => og_pe c j, fun c => pe_og c j⟩
def ngOn : Fin 8 ≃ Fin 8 := ⟨ng, ng, ng_ng, ng_ng⟩
def ogAll (c : Dev nD) : Fin 8 ≃ Dev nD :=
  ⟨og c, fun d => ⟨(c.val + (8 - d.val)) % 8, Nat.mod_lt _ (by decide)⟩, by revert c; decide, by revert c; decide⟩

/-! ## Semaphores and cells -/

abbrev barS : Sem sig := (SemArray.scalar (sig.barrier 0 rfl) : Sems sig S_).sem

set_option backward.proofsInPublic true in
/-- The kernel's own copy semaphores: array `k`, slot `j`. -/
def own (k : Fin 4) (j : Fin 8) : DmaSem sig := ⟨6 + 8 * k.val + j.val, by have := k.isLt; have := j.isLt; show _ < 38; omega⟩

/-- Which array a copy semaphore is of (0: none of the four), and its slot. -/
def kindOf (s : DmaSem sig) : ℕ := (s.val + 2) / 8
set_option backward.proofsInPublic true in
def slotOf (s : DmaSem sig) : Fin 8 := ⟨(s.val + 2) % 8, Nat.mod_lt _ (by decide)⟩

theorem kindOf_own (k : Fin 4) (j : Fin 8) : kindOf (own k j) = k.val + 1 := by revert k j; decide
theorem slotOf_own (k : Fin 4) (j : Fin 8) : slotOf (own k j) = j := by revert k j; decide

abbrev bar (c : Dev nD) : GSem nD τ sig := ((c : Thread nD τ), .reg barS)
abbrev cell (k : Fin 4) (c : Dev nD) (j : Fin 8) : GSem nD τ sig := ((c : Thread nD τ), .dma (own k j))

/-! ## The places -/

theorem rows_inb (t : Dev nD) : ∀ a, (![64 * t.val, 0] : Fin 2 → ℕ) a + S64x512.size a ≤ S512x512.size a := by revert t; decide
/-- The 64 rows device `t` reduces. -/
abbrev rowRect (t : Dev nD) : Rect S512x512 := Rect.unit (s := S512x512) ![64 * t.val, 0] S64x512.size (rows_inb t)

theorem slot_inb (j : Fin 8) : ∀ a, (![j.val, 0, 0] : Fin 3 → ℕ) a + S1x64x512.size a ≤ S8x64x512.size a := by revert j; decide
abbrev slotRect (j : Fin 8) : Rect S8x64x512 := Rect.unit (s := S8x64x512) ![j.val, 0, 0] S1x64x512.size (slot_inb j)

abbrev partW : Memref sig .tc .vmem S512x512 .bf16 := Memref.whole cc0_scratch0
abbrev slotW : Memref sig .tc .vmem S8x64x512 .bf16 := Memref.whole cc0_scratch1
abbrev chunkW : Memref sig .tc .vmem S64x512 .bf16 := Memref.whole cc0_scratch2
abbrev accW : Memref sig .tc .vmem S512x512 .bf16 := Memref.whole cc0_scratch3

/-- Rows of device `t` in the partial product, landing slot `j`, rows of device `t` in the gathered result. -/
abbrev partM (t : Dev nD) : Memref sig .tc .vmem S64x512 .bf16 := partW.slice (rowRect t) (fun _ => rfl)
abbrev slotM (j : Fin 8) : Memref sig .tc .vmem S64x512 .bf16 := (slotW.slice (slotRect j) (fun _ => rfl)).squeeze S64x512 squeezes_S1x64x512_S64x512
abbrev accM (t : Dev nD) : Memref sig .tc .vmem S64x512 .bf16 := accW.slice (rowRect t) (fun _ => rfl)

/-- What one copy of 64 rows credits. -/
abbrev N : ℕ := (chunkW : Memref sig .tc .vmem S64x512 .bf16).view.dmaCredit
theorem N_pos : 0 < N := View.dmaCredit_pos _ (by decide)

theorem N_slot (j : Fin 8) : (slotM j).view.dmaCredit = N := rfl
theorem N_acc (t : Dev nD) : (accM t).view.dmaCredit = N := rfl
theorem N_part (t : Dev nD) : (partM t).view.dmaCredit = N := rfl

/-- The place `M` of device `c` at contents not chosen. -/
def anyAt (c : Dev nD) {e : EltTy} {s : Shape} (M : Memref sig .tc .vmem s e) : sProp 𝕄 :=
  iprop(∃ f, M.view.loc (c : Thread nD τ) ↦[M.view.set]{fullShare} f)

instance anyAt_storable (c : Dev nD) {e : EltTy} {s : Shape} (M : Memref sig .tc .vmem s e) :
    BI.Storable (upEmb : UEmb _ 𝕄) (anyAt (F := F) c M) := by unfold anyAt; infer_instance

/-! ## The contents -/

section Contents

variable (P : Dev nD → Vec F S512x512 .bf16)

/-- The rows of device `t` in the partial product of device `c`. -/
def piece (c t : Dev nD) : Vec F S64x512 .bf16 := fun x => P c ((rowRect t).emb x)

/-- The rows of device `c` summed over all devices: its own, then those of the devices 1, 2, …, 7 places before it, in that order. -/
def chunk (c : Dev nD) : Vec F S64x512 .bf16 :=
  let up (v : Vec F S64x512 .bf16) : FVec F S64x512 .f32 := extf .f32 v bitsLt_bf16_f32
  truncf .bf16 (addf (addf (addf (addf (addf (addf (addf (up (piece P c c)) (up (piece P (og c 1) c))) (up (piece P (og c 2) c))) (up (piece P (og c 3) c)))
    (up (piece P (og c 4) c))) (up (piece P (og c 5) c))) (up (piece P (og c 6) c))) (up (piece P (og c 7) c))) bitsLt_bf16_f32

set_option backward.proofsInPublic true in
/-- The index inside its 64-row block of an index of the whole. -/
def inRow (i : S512x512.Idx) : S64x512.Idx := fun
  | ⟨0, _⟩ => ⟨(i 0).val % 64, Nat.mod_lt _ (by decide)⟩
  | ⟨1, _⟩ => ⟨(i 1).val, (i 1).isLt⟩
set_option backward.proofsInPublic true in
/-- The device whose rows an index is in. -/
def devOf (i : S512x512.Idx) : Dev nD := ⟨(i 0).val / 64, by have h : (i 0).val < 512 := (i 0).isLt; show _ < 8; omega⟩

/-- The gathered result: every device's summed rows in their place. -/
def gathered : Vec F S512x512 .bf16 := fun i => chunk P (devOf i) (inRow i)

/-! ## The schedule -/

/-- The rows of device `t` of the partial product of device `c`. -/
def rowsAt (c t : Dev nD) : sProp 𝕄 := (partM t).view.loc (c : Thread nD τ) ↦[(partM t).view.set]{fullShare} (P c)
/-- The summed rows of device `c`, at the share that goes with slot `j`. -/
def chunkAt (c : Dev nD) (j : Fin 8) : sProp 𝕄 :=
  chunkW.view.loc (c : Thread nD τ) ↦[chunkW.view.set]{ShareLeaves.leaf 3 fullShare j} (chunk P c)

/-- What device `pe c e` hands device `c` with its barrier unit: the slot and the rows `c` will write on it. -/
def barPay (c : Dev nD) (e : Fin 8) : sProp 𝕄 :=
  iprop(anyAt (pe c e) (slotM e) ∗ anyAt (pe c e) (accM c) ∗ reached ER (cell 1 (pe c e) e) 0 ∗ reached ER (cell 3 (pe c e) e) 0)
def slotPay (c : Dev nD) (j : Fin 8) : sProp 𝕄 := owns (c : Thread nD τ) (slotM j) fullShare (piece P (og c j) c)
def accPay (c : Dev nD) (j : Fin 8) : sProp 𝕄 := owns (c : Thread nD τ) (accM (og c j)) fullShare (chunk P (og c j))

/-- What a copy semaphore of array `k - 1`, slot `j`, is credited with. -/
def dmaPay (c : Dev nD) (k : ℕ) (j : Fin 8) : sProp 𝕄 :=
  match k with
  | 1 => rowsAt P c (pe c j)
  | 2 => slotPay P c j
  | 3 => chunkAt P c j
  | 4 => accPay P c j
  | _ => iprop(emp)

/-- Duties: a barrier cell's, one per other device; a copy semaphore's, one (slot 0 has none). -/
def dutiesOf (sm : SemLoc sig) : Finset (Fin 8) :=
  match sm with
  | .reg _ => Finset.univ.erase 0
  | .dma s => if kindOf s = 0 ∨ slotOf s = 0 then ∅ else {0}
def amountOf' (sm : SemLoc sig) : ℕ := match sm with | .reg _ => 1 | .dma _ => N
def payOf (c : Dev nD) (sm : SemLoc sig) (d : Fin 8) : sProp 𝕄 :=
  match sm with | .reg _ => barPay c d | .dma s => dmaPay P c (kindOf s) (slotOf s)

def Rd : Rounds.Schedule (GSem nD τ sig) (Fin 8) 𝕄 where
  duties g r := if r = 0 ∧ g.1.2 = .tc then dutiesOf g.2 else ∅
  unitless _ := False
  amount g _ _ := amountOf' g.2
  payload g _ d := payOf P g.1.1 g.2 d
  amount_pos g _ _ _ := by
    show 0 < amountOf' g.2
    unfold amountOf'; split
    · exact Nat.one_pos
    · exact N_pos

instance Rd_storable (g : GSem nD τ sig) (r : ℕ) (d : Fin 8) : BI.Storable (upEmb : UEmb _ 𝕄) ((Rd (F := F) P).payload g r d) := by
  show BI.Storable upEmb (payOf P g.1.1 g.2 d)
  unfold payOf; split
  · unfold barPay; infer_instance
  · unfold dmaPay; split
    · unfold rowsAt; infer_instance
    · unfold slotPay; infer_instance
    · unfold chunkAt; infer_instance
    · unfold accPay; infer_instance
    · infer_instance

theorem duties_bar (c : Dev nD) : (Rd (F := F) P).duties (bar c) 0 = Finset.univ.erase 0 := by dsimp only [Rd]; exact if_pos ⟨rfl, rfl⟩
theorem duties_own (k : Fin 4) (c : Dev nD) (j : Fin 8) (hj : j ≠ 0) : (Rd (F := F) P).duties (cell k c j) 0 = {0} := by
  dsimp only [Rd]
  rw [if_pos ⟨rfl, rfl⟩]
  show (if kindOf (own k j) = 0 ∨ slotOf (own k j) = 0 then ∅ else {0}) = ({0} : Finset (Fin 8))
  rw [kindOf_own, slotOf_own, if_neg]
  rintro (h | h)
  · omega
  · exact hj h
theorem duties_later (g : GSem nD τ sig) : ∀ r, 1 ≤ r → (Rd (F := F) P).duties g r = ∅ :=
  fun r hr => by dsimp only [Rd]; rw [if_neg fun h => by omega]
theorem amount_bar (c : Dev nD) (d : Fin 8) : (Rd (F := F) P).amount (bar c) 0 d = 1 := rfl
theorem amount_own (k : Fin 4) (c : Dev nD) (j d : Fin 8) : (Rd (F := F) P).amount (cell k c j) 0 d = N := rfl
theorem expect_bar (c : Dev nD) : (Rd (F := F) P).expect (bar c) 0 = 7 := by
  unfold Schedule.expect Schedule.amountOf
  rw [duties_bar, Finset.sum_congr rfl fun d _ => amount_bar P c d]; decide
theorem expect_own (k : Fin 4) (c : Dev nD) (j : Fin 8) (hj : j ≠ 0) : (Rd (F := F) P).expect (cell k c j) 0 = N := by
  unfold Schedule.expect Schedule.amountOf; rw [duties_own P k c j hj, Finset.sum_singleton, amount_own]
theorem payload_bar (c : Dev nD) (d : Fin 8) : (Rd (F := F) P).payload (bar c) 0 d = barPay c d := rfl
theorem payload_own (k : Fin 4) (c : Dev nD) (j d : Fin 8) : (Rd (F := F) P).payload (cell k c j) 0 d = dmaPay P c (k.val + 1) j := by
  show dmaPay P c (kindOf (own k j)) (slotOf (own k j)) = _
  rw [kindOf_own, slotOf_own]
theorem rest_bar (c : Dev nD) : bigSep ((Rd (F := F) P).duties (bar c) 0 \ ∅) (fun d => (Rd (F := F) P).payload (bar c) 0 d)
    = bigSep (Finset.univ.erase 0) fun e => barPay c e := by
  rw [Finset.sdiff_empty, duties_bar]; rfl
theorem rest_own (k : Fin 4) (c : Dev nD) (j : Fin 8) (hj : j ≠ 0) :
    bigSep ((Rd (F := F) P).duties (cell k c j) 0 \ ∅) (fun d => (Rd (F := F) P).payload (cell k c j) 0 d) = dmaPay P c (k.val + 1) j := by
  rw [Finset.sdiff_empty, duties_own P k c j hj, bigSep_singleton, payload_own]

end Contents

/-! ## What a device owes; the levels -/

/-- Device `c` still owing the barrier units of the slots `B`, the first exchange's of `U` and the second's of `V`. -/
def owe (c : Dev nD) (B U V : Finset (Fin 8)) : CellTallies nD τ sig Unit :=
  (∑ j ∈ B, tallyAt (bar (pe c j)) () 1) + ((∑ j ∈ U, tallyAt (cell 1 (pe c j) j) () N) + ∑ j ∈ V, tallyAt (cell 3 (pe c j) j) () N)

/-- The slots other than the device's own. -/
abbrev oth : Finset (Fin 8) := Finset.univ.erase 0

def O₀ (c : Dev nD) : CellTallies nD τ sig Unit := owe c oth oth oth

theorem owe_none (c : Dev nD) : owe c ∅ ∅ ∅ = 0 := by unfold owe; simp

theorem owe_bar (c : Dev nD) (j : Fin 8) (B U V : Finset (Fin 8)) (h : j ∉ B) :
    owe c (insert j B) U V = owe c B U V + tallyAt (bar (pe c j)) () 1 := by
  unfold owe; rw [Finset.sum_insert h]; ac_rfl
theorem owe_fst (c : Dev nD) (j : Fin 8) (B U V : Finset (Fin 8)) (h : j ∉ U) :
    owe c B (insert j U) V = owe c B U V + tallyAt (cell 1 (pe c j) j) () N := by
  unfold owe; rw [Finset.sum_insert h]; ac_rfl
theorem owe_snd (c : Dev nD) (j : Fin 8) (B U V : Finset (Fin 8)) (h : j ∉ V) :
    owe c B U (insert j V) = owe c B U V + tallyAt (cell 3 (pe c j) j) () N := by
  unfold owe; rw [Finset.sum_insert h]; ac_rfl

def L (g : GSem nD τ sig) : Finset Unit := if g.1.2 = .tc then {()} else ∅
def semLv (sm : SemLoc sig) : ℕ := match sm with | .reg _ => 1 | .dma s => if kindOf s = 2 then 2 else if kindOf s = 4 then 3 else 0
/-- Barrier cells at 1, the first exchange's receive cells at 2, the second's at 3, everything else at 0. -/
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (bar c) () = 1 := rfl
theorem lv_cell (k : Fin 4) (c : Dev nD) (j : Fin 8) : lv (cell k c j) () = if k = 1 then 2 else if k = 3 then 3 else 0 := by
  show (if kindOf (own k j) = 2 then 2 else if kindOf (own k j) = 4 then 3 else 0) = _
  rw [kindOf_own]; revert k; decide

/-- A cell owed something is one of the listed. -/
theorem owe_pos {c : Dev nD} {B U V : Finset (Fin 8)} {g : GSem nD τ sig} {u : Unit} (h : 0 < owe c B U V g u) :
    (∃ j ∈ B, g = bar (pe c j)) ∨ (∃ j ∈ U, g = cell 1 (pe c j) j) ∨ (∃ j ∈ V, g = cell 3 (pe c j) j) := by
  by_contra hn
  simp only [not_or, not_exists, not_and] at hn
  obtain ⟨h1, h2, h3⟩ := hn
  unfold owe at h
  simp only [Pi.add_apply, Finsupp.add_apply, Finset.sum_apply, Finsupp.finset_sum_apply, tallyAt_apply] at h
  rw [Finset.sum_eq_zero fun j hj => if_neg fun e => h1 j hj e.1, Finset.sum_eq_zero fun j hj => if_neg fun e => h2 j hj e.1,
    Finset.sum_eq_zero fun j hj => if_neg fun e => h3 j hj e.1] at h
  exact Nat.lt_irrefl 0 h

/-- A device may wait on a semaphore below everything it owes. -/
theorem may_wait (c : Dev nD) (sm : SemLoc sig) (B U V : Finset (Fin 8)) (hB : ∀ j ∈ B, semLv sm < 1) (hU : ∀ j ∈ U, semLv sm < 2)
    (hV : ∀ j ∈ V, semLv sm < 3) : (levAts L lv : sProp 𝕄) ⊢ MayWait (c : Thread nD τ) sm () (owe c B U V) :=
  MayOwe.of_cut (L := L) (lev := lv) (semLv sm) (fun p hp => by rw [Finset.mem_singleton.mp hp, L_tc]; exact Finset.mem_singleton_self _)
    (fun g u hg => by rcases owe_pos hg with ⟨j, -, rfl⟩ | ⟨j, -, rfl⟩ | ⟨j, -, rfl⟩ <;> (rw [L_tc]; exact Finset.mem_singleton_self _))
    (fun p hp => by rw [Finset.mem_singleton.mp hp]; exact le_refl _)
    (fun g u hg => by
      rcases owe_pos hg with ⟨j, hj, rfl⟩ | ⟨j, hj, rfl⟩ | ⟨j, hj, rfl⟩
      · rw [lv_bar]; exact hB j hj
      · rw [lv_cell]; exact hU j hj
      · rw [lv_cell]; exact hV j hj)

end Cert.Exchange
-- ==== Proof.Steps.lean ====
/-
One step of the exchange at a time, at a symbolic device.

A family of eight slots is held as `upto k B A`: the slots up to `k` already moved on (`B`), the others still as they
were (`A`). Each lemma moves slot `k + 1`.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families of slots -/

def upto (k : ℕ) (B A : Fin 8 → sProp 𝕄) : sProp 𝕄 := bigSep Finset.univ fun j : Fin 8 => if j.val ≤ k then B j else A j

theorem upto_step (B A : Fin 8 → sProp 𝕄) {k : ℕ} (j : Fin 8) (hj : j.val = k + 1) :
    upto k B A ⊢ iprop(A j ∗ (B j -∗ upto (k + 1) B A)) := by
  unfold upto
  rw [bigSep_univ_at _ j, bigSep_univ_at (fun i : Fin 8 => if i.val ≤ k + 1 then B i else A i) j, if_neg (by omega), if_pos (by omega),
    bigSep_congr (Ψ := fun i : Fin 8 => if i.val ≤ k + 1 then B i else A i) fun i hi => by
      have hne : i.val ≠ j.val := fun e => Finset.ne_of_mem_erase hi (Fin.ext e)
      by_cases h : i.val ≤ k
      · rw [if_pos h, if_pos (by omega)]
      · rw [if_neg h, if_neg (by omega)]]
  iintro ⟨Ha, Hr⟩
  isplitl [Ha]; · iexact Ha
  iintro Hb
  isplitl [Hb]; · iexact Hb
  iexact Hr

theorem upto_start (B A : Fin 8 → sProp 𝕄) : upto 0 B A = iprop(B 0 ∗ bigSep oth A) := by
  unfold upto
  rw [bigSep_univ_at _ 0, if_pos (by decide : (0 : Fin 8).val ≤ 0)]
  rw [bigSep_congr (Ψ := A) fun i hi => if_neg (by
    have : i.val ≠ 0 := fun e => Finset.ne_of_mem_erase hi (Fin.ext e)
    omega)]

theorem upto_end (B A : Fin 8 → sProp 𝕄) : upto 7 B A = bigSep Finset.univ B := by
  unfold upto
  exact bigSep_congr fun i _ => if_pos (by have := i.isLt; omega)

/-- The slots past `k`. -/
def hi (k : ℕ) : Finset (Fin 8) := Finset.univ.filter fun j => k < j.val
theorem hi_zero : hi 0 = oth := by decide
theorem hi_seven : hi 7 = ∅ := by decide
theorem hi_step {k : ℕ} (j : Fin 8) (hj : j.val = k + 1) : hi k = insert j (hi (k + 1)) := by
  ext i
  simp only [hi, Finset.mem_filter, Finset.mem_univ, true_and, Finset.mem_insert, Fin.ext_iff]
  omega
theorem not_mem_hi {k : ℕ} (j : Fin 8) (hj : j.val = k + 1) : j ∉ hi (k + 1) := by
  simp only [hi, Finset.mem_filter, Finset.mem_univ, true_and]; omega
theorem ne_zero_of {k : ℕ} {j : Fin 8} (hj : j.val = k + 1) : j ≠ 0 := fun h => by rw [h] at hj; exact absurd hj (by simp)

theorem owe_bar_hi (c : Dev nD) {k : ℕ} (j : Fin 8) (hj : j.val = k + 1) :
    owe c (hi k) oth oth = owe c (hi (k + 1)) oth oth + tallyAt (bar (pe c j)) () 1 := by
  rw [hi_step j hj]; exact owe_bar c j _ _ _ (not_mem_hi j hj)
theorem owe_snd_hi (c : Dev nD) {k : ℕ} (j : Fin 8) (hj : j.val = k + 1) :
    owe c ∅ ∅ (hi k) = owe c ∅ ∅ (hi (k + 1)) + tallyAt (cell 3 (pe c j) j) () N := by
  rw [hi_step j hj]; exact owe_snd c j _ _ _ (not_mem_hi j hj)

/-! ## What never changes -/

section Fixed

variable (P : Dev nD → Vec F S512x512 .bf16) (K : GSem nD τ sig → ℕ) (c : Dev nD)

/-- The invariants of the cells in use. -/
def invs : sProp 𝕄 :=
  iprop((bigSep Finset.univ fun d : Dev nD => cellInv ER (Rd (F := F) P) (K (bar d)) (bar d))
    ∗ bigSep (Finset.univ : Finset (Dev nD × Fin 4)) fun p => bigSep oth fun j => cellInv ER (Rd (F := F) P) (K (cell p.2 p.1 j)) (cell p.2 p.1 j))
/-- Every barrier cell, and device `c`'s own copy cells, at their only round. -/
def marks : sProp 𝕄 :=
  iprop((bigSep Finset.univ fun d : Dev nD => reached ER (bar d) 0)
    ∗ bigSep (Finset.univ : Finset (Fin 4)) fun k => bigSep oth fun j => reached ER (cell k c j) 0)
def ctx : sProp 𝕄 := iprop(invs P K ∗ marks c ∗ levAts L lv)

instance invs_persistent : BI.Persistent (invs (F := F) P K) := by unfold invs; infer_instance
instance marks_persistent : BI.Persistent (marks (F := F) c) := by unfold marks; infer_instance
instance ctx_persistent : BI.Persistent (ctx (F := F) P K c) := by unfold ctx; infer_instance

theorem inv_bar (d : Dev nD) : ctx (F := F) P K c ⊢ cellInv ER (Rd (F := F) P) (K (bar d)) (bar d) := by
  unfold ctx invs
  iintro ⟨⟨H, -⟩, -⟩
  have h : (bigSep Finset.univ fun d : Dev nD => cellInv ER (Rd (F := F) P) (K (bar d)) (bar d)) ⊢ cellInv ER (Rd (F := F) P) (K (bar d)) (bar d) :=
    bigSep_elim (Finset.mem_univ d)
  iapply h $$ H
theorem inv_own (k : Fin 4) (d : Dev nD) (j : Fin 8) (hj : j ≠ 0) :
    ctx (F := F) P K c ⊢ cellInv ER (Rd (F := F) P) (K (cell k d j)) (cell k d j) := by
  unfold ctx invs
  iintro ⟨⟨-, H⟩, -⟩
  have h : (bigSep (Finset.univ : Finset (Dev nD × Fin 4)) fun p => bigSep oth fun j => cellInv ER (Rd (F := F) P) (K (cell p.2 p.1 j)) (cell p.2 p.1 j))
      ⊢ cellInv ER (Rd (F := F) P) (K (cell k d j)) (cell k d j) :=
    BI.Entails.trans (bigSep_elim (Finset.mem_univ ((d, k) : Dev nD × Fin 4))) (bigSep_elim (Finset.mem_erase.mpr ⟨hj, Finset.mem_univ j⟩))
  iapply h $$ H
theorem mark_bar (d : Dev nD) : ctx (F := F) P K c ⊢ reached ER (bar d) 0 := by
  unfold ctx marks
  iintro ⟨-, ⟨H, -⟩, -⟩
  have h : (bigSep Finset.univ fun d : Dev nD => reached ER (bar d) 0) ⊢ (reached ER (bar d) 0 : sProp 𝕄) := bigSep_elim (Finset.mem_univ d)
  iapply h $$ H
theorem mark_own (k : Fin 4) (j : Fin 8) (hj : j ≠ 0) : ctx (F := F) P K c ⊢ reached ER (cell k c j) 0 := by
  unfold ctx marks
  iintro ⟨-, ⟨-, H⟩, -⟩
  have h : (bigSep (Finset.univ : Finset (Fin 4)) fun k => bigSep oth fun j => reached ER (cell k c j) 0) ⊢ (reached ER (cell k c j) 0 : sProp 𝕄) :=
    BI.Entails.trans (bigSep_elim (Finset.mem_univ k)) (bigSep_elim (Finset.mem_erase.mpr ⟨hj, Finset.mem_univ j⟩))
  iapply h $$ H
theorem ctx_lev : ctx (F := F) P K c ⊢ levAts L lv := by
  unfold ctx
  iintro ⟨-, -, H⟩
  iexact H

end Fixed

/-- What device `c` owes, whatever it has waited for. -/
def Owes (c : Dev nD) (O : CellTallies nD τ sig Unit) : sProp 𝕄 := iprop(∃ W : Waits sig Unit, owes (c : Thread nD τ) O W)

section Steps

variable (P : Dev nD → Vec F S512x512 .bf16) (K : GSem nD τ sig → ℕ) (c : Dev nD)

/-! ## The barrier -/

/-- What the signal to the device `j` places on takes: the slot and the rows that device writes on this one. -/
def sigRes (j : Fin 8) : sProp 𝕄 :=
  iprop(dutyTok ER (bar (pe c j)) 0 (ng j) ∗ anyAt c (slotM (ng j)) ∗ anyAt c (accM (pe c j)))

theorem signal_step {k : ℕ} (j : Fin 8) (hj : j.val = k + 1) {n : Dev nD} (hn : n = pe c j) {v : ℕ} (hv : v = 1)
    {α : Type} {Q : α → sProp 𝕄} {kk : PUnit → Prog (TpuEff nD τ sig (Elt F) Λ₀ .tc) α} :
    ctx (F := F) P K c ⊢ iprop(Owes c (owe c (hi k) oth oth) -∗ upto k (fun _ => iprop(emp)) (sigRes c)
      -∗ ((Owes c (owe c (hi (k + 1)) oth oth) ∗ upto (k + 1) (fun _ => iprop(emp)) (sigRes c)) -∗ wp frame (wpE (defs₀ (F := F)) 𝒱₀ (c : Thread nD τ) none) Set.univ (kk ⟨⟩) Q)
      -∗ wp frame (wpE (defs₀ (F := F)) 𝒱₀ (c : Thread nD τ) none) Set.univ (.op (.semSignal (Dev.tc n : Thread nD τ) barS v) kk) Q) := by
  subst hn; subst hv
  iintro #Hc HO HS Hk
  unfold Owes
  icases HO with ⟨%W, HO⟩
  icases (upto_step _ _ j hj) $$ HS with ⟨Hr, Hnext⟩
  unfold sigRes
  icases Hr with ⟨Ht, Hs, Ha⟩
  iapply (Rounds.wp_signal 𝒱₀ ER (Rd (F := F) P) (c : Thread nD τ) none (dst := (pe c j : Thread nD τ)) (sem := barS) (r := 0) (d := ng j)
      (κ := K (bar (pe c j))) (by rw [duties_bar]; exact Finset.mem_erase.mpr ⟨ng_ne j (ne_zero_of hj), Finset.mem_univ _⟩)
      (amount_bar P (pe c j) (ng j)) () (owe c (hi (k + 1)) oth oth) (owe_bar_hi c j hj))
    $$ [HO Ht Hs Ha]
  · isplitr; · iapply (inv_bar P K c (pe c j)) $$ Hc
    isplitl [HO]; · iexact HO
    isplitl [Ht]; · iexact Ht
    isplitl [Hs Ha]
    · rw [payload_bar]; unfold barPay; rw [pe_pe_ng]
      isplitl [Hs]; · iexact Hs
      isplitl [Ha]; · iexact Ha
      isplitr; · iapply (mark_own P K c 1 (ng j) (ng_ne j (ne_zero_of hj))) $$ Hc
      · iapply (mark_own P K c 3 (ng j) (ng_ne j (ne_zero_of hj))) $$ Hc
    · iapply (mark_bar P K c (pe c j)) $$ Hc
  iintro HO
  iapply Hk
  isplitl [HO]; · iexists W; iexact HO
  iapply Hnext
  iempintro

theorem barrier_wait {v : ℕ} (hv : v = 7) {α : Type} {Q : α → sProp 𝕄} {kk : PUnit → Prog (TpuEff nD τ sig (Elt F) Λ₀ .tc) α} :
    ctx (F := F) P K c ⊢ iprop(Owes c (owe c ∅ oth oth) -∗ cred (tallyAt (bar c) () 7) -∗ atPos ER (bar c) 0 ∅ 0
      -∗ ((Owes c (owe c ∅ oth oth) ∗ semVal (bar c) 0 ∗ bigSep oth (fun e => barPay c e)) -∗ wp frame (wpE (defs₀ (F := F)) 𝒱₀ (c : Thread nD τ) none) Set.univ (kk ⟨⟩) Q)
      -∗ wp frame (wpE (defs₀ (F := F)) 𝒱₀ (c : Thread nD τ) none) Set.univ (.op (.semWait barS v) kk) Q) := by
  subst hv
  iintro #Hc HO Hcr Hat Hk
  unfold Owes
  icases HO with ⟨%W, HO⟩
  ihave #HI := (inv_bar P K c c) $$ Hc
  iapply (Rounds.wp_wait_rest_token 𝒱₀ ER (Rd (F := F) P) (c : Thread nD τ) none (κ := K (bar c))
      (wpE_semWait_eq 𝒱₀ (c : Thread nD τ) none Set.univ) (Set.mem_univ _) () (O := owe c ∅ oth oth) (W := W) (R := 0) (m := 0) (T := ∅)
      (by rw [expect_bar])) $$ [Hcr HO Hat]
  · isplitr; · iexact HI
    isplitl [Hcr]; · iexact Hcr
    isplitl [HO]; · iexact HO
    isplitr
    · ihave Hl := (ctx_lev P K c) $$ Hc
      iapply (may_wait c (.reg barS) ∅ oth oth (fun j hj => absurd hj (Finset.notMem_empty j)) (fun _ _ => by decide) (fun _ _ => by decide)) $$ Hl
    · iexact Hat
  rw [rest_bar]
  iintro ⟨HO, Hat, -, Hp⟩
  imod (Rounds.cell_close ER (Rd (F := F) P) (Set.mem_univ (K (bar c))) id (R := 0 + 1) (duties_later P (bar c))) $$ [Hat] with Hz
  · isplitr; · iexact HI
    iexact Hat
  iapply Hk
  isplitl [HO]; · iexists (insert (SemLoc.reg barS, ()) W); iexact HO
  isplitl [Hz]; · iexact Hz
  iexact Hp

/-! ## Waiting for a copy -/

/-- Slot `j` of array `k` still to wait for, and waited for. -/
def pend (k : Fin 4) (j : Fin 8) : sProp 𝕄 := iprop(atPos ER (cell k c j) 0 ∅ 0 ∗ cred (tallyAt (cell k c j) () N))
def done (k : Fin 4) (j : Fin 8) : sProp 𝕄 := iprop(semVal (cell k c j) 0 ∗ if j = 0 then iprop(emp) else dmaPay P c (k.val + 1) j)

theorem wait_step (κ : Fin 4) {k : ℕ} (j : Fin 8) (hj : j.val = k + 1) {sm : DmaSem sig} (hsm : sm = own κ j) (B U V : Finset (Fin 8))
    (hB : ∀ i ∈ B, semLv (.dma (own κ j)) < 1) (hU : ∀ i ∈ U, semLv (.dma (own κ j)) < 2) (hV : ∀ i ∈ V, semLv (.dma (own κ j)) < 3)
    {sp sp' : Space} {s s' : Shape} {e e' : EltTy} {κ' : Kind} {src : Memref sig .tc sp' s' e'} {dst : Memref sig κ' sp s e}
    {hsrc : src.view.WordExact} {hdst : dst.view.WordExact} (hN : dst.view.dmaCredit = N)
    {α : Type} {Q : α → sProp 𝕄} {kk : PUnit → Prog (TpuEff nD τ sig (Elt F) Λ₀ .tc) α} :
    ctx (F := F) P K c ⊢ iprop(Owes c (owe c B U V) -∗ upto k (done P c κ) (pend c κ)
      -∗ ((Owes c (owe c B U V) ∗ upto (k + 1) (done P c κ) (pend c κ)) -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 sm src dst hsrc hdst) kk) Q) := by
  subst hsm
  iintro #Hc HO HS Hk
  unfold Owes
  icases HO with ⟨%W, HO⟩
  icases (upto_step _ _ j hj) $$ HS with ⟨Hr, Hnext⟩
  unfold pend
  icases Hr with ⟨Hat, Hcr⟩
  ihave #HI := (inv_own P K c κ c j (ne_zero_of hj)) $$ Hc
  iapply (Rounds.wp_wait_rest_token 𝒱₀ ER (Rd (F := F) P) (c : Thread nD τ) none (κ := K (cell κ c j))
      (wpE_waitDma2_eq 𝒱₀ (c : Thread nD τ) none Set.univ) (Set.mem_univ _) () (O := owe c B U V) (W := W) (R := 0) (m := 0) (T := ∅)
      (by rw [expect_own P κ c j (ne_zero_of hj), hN, Nat.zero_add])) $$ [Hcr HO Hat]
  · isplitr; · iexact HI
    isplitl [Hcr]; · rw [hN]; iexact Hcr
    isplitl [HO]; · iexact HO
    isplitr
    · ihave Hl := (ctx_lev P K c) $$ Hc
      iapply (may_wait c (.dma (own κ j)) B U V hB hU hV) $$ Hl
    · iexact Hat
  rw [rest_own P κ c j (ne_zero_of hj)]
  iintro ⟨HO, Hat, -, Hp⟩
  imod (Rounds.cell_close ER (Rd (F := F) P) (Set.mem_univ (K (cell κ c j))) id (R := 0 + 1) (duties_later P (cell κ c j))) $$ [Hat] with Hz
  · isplitr; · iexact HI
    iexact Hat
  iapply Hk
  isplitl [HO]; · iexists (insert (SemLoc.dma (own κ j), ()) W); iexact HO
  iapply Hnext
  unfold done
  rw [if_neg (ne_zero_of hj)]
  isplitl [Hz]; · iexact Hz
  iexact Hp

/-! ## The first exchange's copies -/

/-- What the copy of slot `j` takes besides the rows. -/
def unsent1 (j : Fin 8) : sProp 𝕄 :=
  iprop(dutyTok ER (cell 0 c j) 0 0 ∗ dutyTok ER (cell 1 (pe c j) j) 0 0 ∗ anyAt (pe c j) (slotM j) ∗ reached ER (cell 1 (pe c j) j) 0)

/-- Slot `j` has been sent: those of an earlier half of the rows, and of this half the first `k`. -/
def sent (b k : ℕ) (j : Fin 8) : Prop := j = 0 ∨ (pe c j).val / 4 < b ∨ ((pe c j).val / 4 = b ∧ j.val ≤ k)
instance (b k : ℕ) (j : Fin 8) : Decidable (sent c b k j) := by unfold sent; infer_instance

def credOf (κ : Fin 4) (j : Fin 8) : sProp 𝕄 := if j = 0 then iprop(emp) else cred (tallyAt (cell κ c j) () N)

def st1 (b k : ℕ) : sProp 𝕄 := bigSep Finset.univ fun j : Fin 8 => if sent c b k j then credOf c 0 j else unsent1 c j
def rows (b k : ℕ) : sProp 𝕄 := bigSep Finset.univ fun j : Fin 8 => if (pe c j).val / 4 = b ∧ k < j.val then rowsAt P c (pe c j) else iprop(emp)
def unsentSlots (b k : ℕ) : Finset (Fin 8) := Finset.univ.filter fun j => ¬sent c b k j

theorem sent_step {b k : ℕ} {j : Fin 8} (hj : j.val = k + 1) (h : (pe c j).val / 4 = b) (i : Fin 8) (hi : i ≠ j) : sent c b (k + 1) i ↔ sent c b k i := by
  have : i.val ≠ k + 1 := fun e => hi (Fin.ext (e.trans hj.symm))
  unfold sent
  constructor <;> rintro (h | h | ⟨h, h'⟩)
  · exact .inl h
  · exact .inr (.inl h)
  · exact .inr (.inr ⟨h, by omega⟩)
  · exact .inl h
  · exact .inr (.inl h)
  · exact .inr (.inr ⟨h, by omega⟩)
theorem sent_skip {b k : ℕ} {j : Fin 8} (hj : j.val = k + 1) (h : ¬(pe c j).val / 4 = b) (i : Fin 8) : sent c b (k + 1) i ↔ sent c b k i := by
  by_cases hi : i = j
  · subst hi
    unfold sent
    constructor <;> rintro (h1 | h1 | ⟨h1, h'⟩)
    · exact .inl h1
    · exact .inr (.inl h1)
    · exact absurd h1 h
    · exact .inl h1
    · exact .inr (.inl h1)
    · exact absurd h1 h
  · have : i.val ≠ k + 1 := fun e => hi (Fin.ext (e.trans hj.symm))
    unfold sent
    constructor <;> rintro (h1 | h1 | ⟨h1, h'⟩)
    · exact .inl h1
    · exact .inr (.inl h1)
    · exact .inr (.inr ⟨h1, by omega⟩)
    · exact .inl h1
    · exact .inr (.inl h1)
    · exact .inr (.inr ⟨h1, by omega⟩)
theorem not_sent {b k : ℕ} {j : Fin 8} (hj : j.val = k + 1) (h : (pe c j).val / 4 = b) : ¬sent c b k j := by
  unfold sent
  rintro (h1 | h1 | ⟨-, h1⟩)
  · exact ne_zero_of hj h1
  · omega
  · omega
theorem sent_now {b k : ℕ} {j : Fin 8} (hj : j.val = k + 1) (h : (pe c j).val / 4 = b) : sent c b (k + 1) j := .inr (.inr ⟨h, by omega⟩)

theorem unsent_step {b k : ℕ} {j : Fin 8} (hj : j.val = k + 1) (h : (pe c j).val / 4 = b) :
    unsentSlots c b k = insert j (unsentSlots c b (k + 1)) := by
  ext i
  simp only [unsentSlots, Finset.mem_filter, Finset.mem_univ, true_and, Finset.mem_insert]
  by_cases hi : i = j
  · subst hi; exact ⟨fun _ => .inl rfl, fun _ => not_sent c hj h⟩
  · rw [sent_step c hj h i hi]; exact ⟨.inr, fun h' => h'.resolve_left hi⟩
theorem not_mem_unsent {b k : ℕ} {j : Fin 8} (hj : j.val = k + 1) (h : (pe c j).val / 4 = b) : j ∉ unsentSlots c b (k + 1) := by
  simp only [unsentSlots, Finset.mem_filter, Finset.mem_univ, true_and, not_not]; exact sent_now c hj h
theorem owe_fst_unsent {b k : ℕ} {j : Fin 8} (hj : j.val = k + 1) (h : (pe c j).val / 4 = b) :
    owe c ∅ (unsentSlots c b k) oth = owe c ∅ (unsentSlots c b (k + 1)) oth + tallyAt (cell 1 (pe c j) j) () N := by
  rw [unsent_step c hj h]; exact owe_fst c j _ _ _ (not_mem_unsent c hj h)
theorem unsent_skip {b k : ℕ} {j : Fin 8} (hj : j.val = k + 1) (h : ¬(pe c j).val / 4 = b) : unsentSlots c b k = unsentSlots c b (k + 1) := by
  ext i
  simp only [unsentSlots, Finset.mem_filter, Finset.mem_univ, true_and, sent_skip c hj h i]

theorem unsent_start : unsentSlots c 0 0 = oth := by revert c; decide
theorem unsent_half : unsentSlots c 0 7 = unsentSlots c 1 0 := by revert c; decide
theorem unsent_end : unsentSlots c 1 7 = ∅ := by revert c; decide
theorem sent_half (j : Fin 8) : sent c 0 7 j ↔ sent c 1 0 j := by revert c j; decide
theorem sent_end (j : Fin 8) : sent c 1 7 j := by revert c j; decide
theorem sent_start (j : Fin 8) : sent c 0 0 j ↔ j = 0 := by revert c j; decide

theorem st1_start : st1 (F := F) c 0 0 = bigSep oth fun j => unsent1 c j := by
  unfold st1
  rw [bigSep_univ_at _ 0, if_pos ((sent_start c 0).mpr rfl), bigSep_congr (Ψ := fun j => unsent1 c j) fun i hi =>
    if_neg fun h => Finset.ne_of_mem_erase hi ((sent_start c i).mp h)]
  unfold credOf
  rw [if_pos rfl]
  exact BI.equiv_iff.mp emp_sep
theorem st1_half : st1 (F := F) c 0 7 = st1 c 1 0 := by
  unfold st1
  exact bigSep_congr fun i _ => by simp only [sent_half c i]
theorem st1_end : st1 (F := F) c 1 7 = bigSep Finset.univ fun j => credOf c 0 j := by
  unfold st1
  exact bigSep_congr fun i _ => if_pos (sent_end c i)
theorem rows_end (b : ℕ) : rows (F := F) P c b 7 = iprop(emp) := by
  unfold rows
  rw [bigSep_congr (Ψ := fun _ => iprop(emp)) fun i _ => if_neg fun h => by have := i.isLt; omega]
  exact bigSep_emp_const _

theorem st1_step {b k : ℕ} {j : Fin 8} (hj : j.val = k + 1) (h : (pe c j).val / 4 = b) :
    st1 (F := F) c b k ⊢ iprop(unsent1 c j ∗ (credOf c 0 j -∗ st1 c b (k + 1))) := by
  unfold st1
  rw [bigSep_univ_at (fun i : Fin 8 => if sent c b k i then credOf c 0 i else unsent1 c i) j, if_neg (not_sent c hj h),
    bigSep_univ_at (fun i : Fin 8 => if sent c b (k + 1) i then credOf c 0 i else unsent1 c i) j, if_pos (sent_now c hj h),
    bigSep_congr (Φ := fun i : Fin 8 => if sent c b k i then credOf c 0 i else unsent1 c i)
      (Ψ := fun i : Fin 8 => if sent c b (k + 1) i then credOf c 0 i else unsent1 (F := F) c i) fun i hi => by
        simp only [sent_step c hj h i (Finset.ne_of_mem_erase hi)]]
  iintro ⟨Ha, Hr⟩
  isplitl [Ha]; · iexact Ha
  iintro Hb
  isplitl [Hb]; · iexact Hb
  iexact Hr
theorem rows_step {b k : ℕ} {j : Fin 8} (hj : j.val = k + 1) (h : (pe c j).val / 4 = b) :
    rows P c b k ⊢ iprop(rowsAt P c (pe c j) ∗ rows P c b (k + 1)) := by
  unfold rows
  rw [bigSep_univ_at (fun i : Fin 8 => if (pe c i).val / 4 = b ∧ k < i.val then rowsAt P c (pe c i) else iprop(emp)) j, if_pos ⟨h, by omega⟩,
    bigSep_univ_at (fun i : Fin 8 => if (pe c i).val / 4 = b ∧ k + 1 < i.val then rowsAt P c (pe c i) else iprop(emp)) j, if_neg (fun h' => by omega),
    bigSep_congr (Φ := fun i : Fin 8 => if (pe c i).val / 4 = b ∧ k < i.val then rowsAt P c (pe c i) else iprop(emp))
      (Ψ := fun i : Fin 8 => if (pe c i).val / 4 = b ∧ k + 1 < i.val then rowsAt P c (pe c i) else iprop(emp)) fun i hi => by
        have : i.val ≠ k + 1 := fun e => Finset.ne_of_mem_erase hi (Fin.ext (e.trans hj.symm))
        by_cases h' : (pe c i).val / 4 = b ∧ k < i.val
        · rw [if_pos h', if_pos ⟨h'.1, by omega⟩]
        · rw [if_neg h', if_neg fun h'' => h' ⟨h''.1, by omega⟩]]
  iintro ⟨Ha, Hr⟩
  isplitl [Ha]; · iexact Ha
  isplitr; · iempintro
  iexact Hr

/-- The rows' contents are what arrives. -/
theorem read_rows (t : Dev nD) : (partM t).view.read (Elt F) (P c) = piece P c t := rfl

theorem send1_step {b k : ℕ} (j : Fin 8) (hj : j.val = k + 1) (cond : Prop) [Decidable cond] (hcond : cond ↔ (pe c j).val / 4 = b)
    {n : cond → Dev nD} (hn : ∀ h, n h = pe c j) {src : cond → Memref sig .tc .vmem S64x512 .bf16} (hs : ∀ h, src h = partM (pe c j))
    {dst : Memref sig .tc .vmem S64x512 .bf16} (hd : dst = slotM j) {sS sR : DmaSem sig} (hsS : sS = own 0 j) (hsR : sR = own 1 j)
    {hsc : ∀ h, (dst : Memref sig (Dev.tc (n h) : Thread nD τ).2.kind .vmem S64x512 .bf16).view.ref.isScScratch = false}
    {hsrc : ∀ h, (src h).view.WordExact} {hdst : dst.view.WordExact}
    {hsem : ∀ h, DmaTarget.Typed .vmem (.dma sR) (.remote (Dev.tc (n h) : Thread nD τ) dst (.dma sS) (hsc h))}
    {α : Type} {Q : α → sProp 𝕄} {kk : PUnit → Prog (TpuEff nD τ sig (Elt F) Λ₀ .tc) α} :
    ctx (F := F) P K c ⊢ iprop(Owes c (owe c ∅ (unsentSlots c b k) oth) -∗ st1 c b k -∗ rows P c b k
      -∗ ((Owes c (owe c ∅ (unsentSlots c b (k + 1)) oth) ∗ st1 c b (k + 1) ∗ rows P c b (k + 1)) -∗ wp frame (wpE (defs₀ (F := F)) 𝒱₀ (c : Thread nD τ) none) Set.univ (kk ⟨⟩) Q)
      -∗ wp frame (wpE (defs₀ (F := F)) 𝒱₀ (c : Thread nD τ) none) Set.univ (dite cond (fun h => .op (.enqueueDma (src h) (.remote (Dev.tc (n h) : Thread nD τ) dst (.dma sS) (hsc h)) (.dma sR) (hsrc h) hdst (hsem h)) kk)
          (fun _ => kk ⟨⟩)) Q) := by
  by_cases hc : cond
  · rw [dif_pos hc]
    have h := hcond.mp hc
    generalize_proofs p1 p2 p3
    revert p1 p2 p3
    have hns := hn hc
    have hss := hs hc
    generalize n hc = nn at *
    generalize src hc = ss at *
    subst hns hss hd hsS hsR
    intro p1 p2 p3
    iintro #Hc HO HS HR Hk
    unfold Owes
    icases HO with ⟨%W, HO⟩
    icases (st1_step c hj h) $$ HS with ⟨Hu, Hnext⟩
    icases (rows_step P c hj h) $$ HR with ⟨Hr, HR⟩
    unfold unsent1 anyAt rowsAt
    icases Hu with ⟨Ht1, Ht2, ⟨%fd, Hd⟩, Hm⟩
    iapply (Rounds.wp_send_pointsTo 𝒱₀ ER (Rd (F := F) P) (c : Thread nD τ) none (κ₁ := K (cell 0 c j)) (κ₂ := K (cell 1 (pe c j) j))
      (r₁ := 0) (r₂ := 0) (d₁ := 0) (d₂ := 0) (fd := fd)
      (by rw [duties_own P 0 c j (ne_zero_of hj)]; exact Finset.mem_singleton_self _)
      (by rw [duties_own P 1 (pe c j) j (ne_zero_of hj)]; exact Finset.mem_singleton_self _)
      () () N rfl (amount_own P 0 c j 0) (amount_own P 1 (pe c j) j 0) (owe c ∅ (unsentSlots c b (k + 1)) oth)
      (owe_fst_unsent c hj h) (W := W)
      (by rw [payload_own]; exact BI.Entails.refl _)
      (by
        rw [payload_own, read_rows]
        show _ ⊢ slotPay P (pe c j) j
        unfold slotPay owns
        iintro H
        iexists (slotM j).view.write (Elt F) fd (piece P c (pe c j)) Finset.univ
        isplitr
        · ipureintro; rw [og_pe]; exact View.read_write_univ _ _
        · iexact H)) $$ [Ht1 Ht2 Hd Hm Hr HO]
    · isplitr; · iapply (inv_own P K c 0 c j (ne_zero_of hj)) $$ Hc
      isplitr; · iapply (inv_own P K c 1 (pe c j) j (ne_zero_of hj)) $$ Hc
      isplitl [Hr]; · iexact Hr
      isplitl [Hd]; · iexact Hd
      isplitl [HO]; · iexact HO
      isplitl [Ht1]; · iexact Ht1
      isplitr; · iapply (mark_own P K c 0 j (ne_zero_of hj)) $$ Hc
      isplitl [Ht2]; · iexact Ht2
      iexact Hm
    iintro ⟨Hcr, HO⟩
    iapply Hk
    isplitl [HO]; · iexists W; iexact HO
    isplitl [Hcr Hnext]
    · iapply Hnext
      unfold credOf; rw [if_neg (ne_zero_of hj)]; iexact Hcr
    · iexact HR
  · rw [dif_neg hc]
    have h : ¬(pe c j).val / 4 = b := fun h => hc (hcond.mpr h)
    have e1 : st1 (F := F) c b (k + 1) = st1 c b k := by
      unfold st1
      exact bigSep_congr fun i _ => by simp only [sent_skip c hj h i]
    have e2 : rows P c b (k + 1) = rows P c b k := by
      unfold rows
      refine bigSep_congr fun i _ => ?_
      by_cases hi : i = j
      · subst hi; rw [if_neg fun h' => h h'.1, if_neg fun h' => h h'.1]
      · have : i.val ≠ k + 1 := fun e => hi (Fin.ext (e.trans hj.symm))
        by_cases h' : (pe c i).val / 4 = b ∧ k < i.val
        · rw [if_pos h', if_pos ⟨h'.1, by omega⟩]
        · rw [if_neg h', if_neg fun h'' => h' ⟨h''.1, by omega⟩]
    rw [e1, e2, ← unsent_skip c hj h]
    iintro #Hc HO HS HR Hk
    iapply Hk
    isplitl [HO]; · iexact HO
    isplitl [HS]; · iexact HS
    iexact HR

/-! ## The second exchange's copies -/

def unsent2 (j : Fin 8) : sProp 𝕄 :=
  iprop(dutyTok ER (cell 2 c j) 0 0 ∗ dutyTok ER (cell 3 (pe c j) j) 0 0 ∗ anyAt (pe c j) (accM c) ∗ reached ER (cell 3 (pe c j) j) 0 ∗ chunkAt P c j)

theorem send2_step {k : ℕ} (j : Fin 8) (hj : j.val = k + 1)
    {n : Dev nD} (hn : n = pe c j)
    {dst : Memref sig .tc .vmem S64x512 .bf16} (hd : dst = accM c) {sS sR : DmaSem sig} (hsS : sS = own 2 j) (hsR : sR = own 3 j)
    {hsc : (dst : Memref sig (Dev.tc n : Thread nD τ).2.kind .vmem S64x512 .bf16).view.ref.isScScratch = false}
    {hsrc : (chunkW : Memref sig .tc .vmem S64x512 .bf16).view.WordExact} {hdst : dst.view.WordExact}
    {hsem : DmaTarget.Typed .vmem (.dma sR) (.remote (Dev.tc n : Thread nD τ) dst (.dma sS) hsc)}
    {α : Type} {Q : α → sProp 𝕄} {kk : PUnit → Prog (TpuEff nD τ sig (Elt F) Λ₀ .tc) α} :
    ctx (F := F) P K c ⊢ iprop(Owes c (owe c ∅ ∅ (hi k)) -∗ upto k (credOf c 2) (unsent2 P c)
      -∗ ((Owes c (owe c ∅ ∅ (hi (k + 1))) ∗ upto (k + 1) (credOf c 2) (unsent2 P c)) -∗ wp frame (wpE (defs₀ (F := F)) 𝒱₀ (c : Thread nD τ) none) Set.univ (kk ⟨⟩) Q)
      -∗ wp frame (wpE (defs₀ (F := F)) 𝒱₀ (c : Thread nD τ) none) Set.univ (.op (.enqueueDma chunkW (.remote (Dev.tc n : Thread nD τ) dst (.dma sS) hsc) (.dma sR) hsrc hdst hsem) kk) Q) := by
  subst hn hd hsS hsR
  iintro #Hc HO HS Hk
  unfold Owes
  icases HO with ⟨%W, HO⟩
  icases (upto_step _ _ j hj) $$ HS with ⟨Hr, Hnext⟩
  unfold unsent2 anyAt chunkAt
  icases Hr with ⟨Ht1, Ht2, ⟨%fd, Hd⟩, Hm, Hr⟩
  iapply (Rounds.wp_send_pointsTo 𝒱₀ ER (Rd (F := F) P) (c : Thread nD τ) none (κ₁ := K (cell 2 c j)) (κ₂ := K (cell 3 (pe c j) j))
    (r₁ := 0) (r₂ := 0) (d₁ := 0) (d₂ := 0) (fd := fd)
    (by rw [duties_own P 2 c j (ne_zero_of hj)]; exact Finset.mem_singleton_self _)
    (by rw [duties_own P 3 (pe c j) j (ne_zero_of hj)]; exact Finset.mem_singleton_self _)
    () () N rfl (amount_own P 2 c j 0) (amount_own P 3 (pe c j) j 0) (owe c ∅ ∅ (hi (k + 1)))
    (owe_snd_hi c j hj) (W := W)
    (by rw [payload_own]; exact BI.Entails.refl _)
    (by
      rw [payload_own]
      show _ ⊢ accPay P (pe c j) j
      unfold accPay owns
      rw [og_pe]
      iintro H
      iexists (accM c).view.write (Elt F) fd (chunkW.view.read (Elt F) (chunk P c)) Finset.univ
      isplitr
      · ipureintro; exact View.read_write_univ _ _
      · iexact H)) $$ [Ht1 Ht2 Hd Hm Hr HO]
  · isplitr; · iapply (inv_own P K c 2 c j (ne_zero_of hj)) $$ Hc
    isplitr; · iapply (inv_own P K c 3 (pe c j) j (ne_zero_of hj)) $$ Hc
    isplitl [Hr]; · iexact Hr
    isplitl [Hd]; · iexact Hd
    isplitl [HO]; · iexact HO
    isplitl [Ht1]; · iexact Ht1
    isplitr; · iapply (mark_own P K c 2 j (ne_zero_of hj)) $$ Hc
    isplitl [Ht2]; · iexact Ht2
    iexact Hm
  iintro ⟨Hcr, HO⟩
  iapply Hk
  isplitl [HO]; · iexists W; iexact HO
  iapply Hnext
  unfold credOf; rw [if_neg (ne_zero_of hj)]; iexact Hcr

end Steps

end Cert.Exchange
-- ==== Proof.Values.lean ====
/-
What the body computes, named: the attention of one head over one batch (`headOf`), one batch's half of a device's
partial product (`halfOf`), the partial product (`partOf`), and the result (`outOf`).  Each is the text of the body's
own operations, in the body's order, over any float values.
-/
module

public import proofs.«01_k».proof.Proof.Steps
public import Idealize.ShloMosaic.Lib.Ring
public import Idealize.ShloMosaic.Lib.Pipeline.ValueKit
public import Idealize.ShloMosaic.Lib.ValueLayout

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## One head, one batch, one device -/

/-- Each row divided by its sum after taking exponentials of the distance to its maximum. -/
def soft (s : FVec F S256x256 .f32) : FVec F S256x256 .f32 :=
  let m : FVec F S256x256 .f32 := broadcastTo S256x256 (shapeCast S256x1
    (multiReduction .maximumf [1] S256 s 0xFF800000#32 reduces_S256x256_S256 (.inl rfl) rfl : FVec F S256 .f32) shapeCasts_S256_S256x1) broadcasts_S256x1_S256x256
  let e : FVec F S256x256 .f32 := exp (subf s m)
  divf e (broadcastTo S256x256 (shapeCast S256x1
    (multiReduction .add [1] S256 e 0x00000000#32 reduces_S256x256_S256 (.inl rfl) rfl : FVec F S256 .f32) shapeCasts_S256_S256x1) broadcasts_S256x1_S256x256)

/-- The scaled and masked products of queries and keys. -/
def scores (q k : FVec F S256x64 .f32) : FVec F S256x256 .f32 :=
  select k0_pay1
    (mulf (matmul dot_S256x64_S256x64_S256x256_1_1_0_0_n_n none q k (constant S256x256 .f32 0x00000000#32))
      (broadcast S256x256 (Scalar.ofBits .f32 0x3E000000#32)))
    (broadcast S256x256 (Scalar.ofBits .f32 0xCE6E6B28#32))

def headOf (q k v : FVec F S256x64 .f32) : FVec F S256x64 .f32 :=
  matmul dot_S256x256_S256x64_S256x64_1_0_0_1_n_n none (soft (scores q k)) v (constant S256x64 .f32 0x00000000#32)

/-- One head's keys or values, as loaded, without their unit axes. -/
abbrev flat (k : Vec F S1x256x1x64 .f32) : FVec F S256x64 .f32 := shapeCast S256x64 k shapeCasts_S1x256x1x64_S256x64

def projOf (x : Vec F S1x256x512 .f32) (wq : Vec F S512x256 .f32) : FVec F S256x256 .f32 :=
  matmul dot_S256x512_S512x256_S256x256_1_0_0_1_n_n none (shapeCast S256x512 x shapeCasts_S1x256x512_S256x512 : FVec F S256x512 .f32)
    (shapeCast S512x256 wq shapeCasts_S512x256_S512x256) (constant S256x256 .f32 0x00000000#32)

/-- One batch of a device's partial product. -/
def halfOf (x : Vec F S1x256x512 .f32) (wq : Vec F S512x256 .f32) (k v : Fin 4 → Vec F S1x256x1x64 .f32) (wo : Vec F S256x512 .f32) : FVec F S256x512 .bf16 :=
  truncf .bf16 (matmul dot_S256x256_S256x512_S256x512_1_0_0_1_n_n none
    (concatenate S256x256 1
      [⟨S256x64, headOf (extractStridedSlice S256x64 ![0, 0] (projOf x wq) slices_S256x256_o0_0_S256x64) (flat (k 0)) (flat (v 0))⟩,
       ⟨S256x64, headOf (extractStridedSlice S256x64 ![0, 64] (projOf x wq) slices_S256x256_o0_64_S256x64) (flat (k 1)) (flat (v 1))⟩,
       ⟨S256x64, headOf (extractStridedSlice S256x64 ![0, 128] (projOf x wq) slices_S256x256_o0_128_S256x64) (flat (k 2)) (flat (v 2))⟩,
       ⟨S256x64, headOf (extractStridedSlice S256x64 ![0, 192] (projOf x wq) slices_S256x256_o0_192_S256x64) (flat (k 3)) (flat (v 3))⟩]
      concatenates_S256x64_S256x64_S256x64_S256x64_S256x256_d1 : FVec F S256x256 .f32)
    (shapeCast S256x512 wo shapeCasts_S256x512_S256x512) (constant S256x512 .f32 0x00000000#32) : FVec F S256x512 .f32) bitsLt_bf16_f32

/-- What is stored for the first batch, -/
theorem first_half (x : Vec F S1x256x512 .f32) (wq : Vec F S512x256 .f32) (k v : Fin 4 → Vec F S1x256x1x64 .f32) (wo : Vec F S256x512 .f32) :
    k0_pay10 k0_pay1 (k0_pay2 x wq) (k0_pay5 (k0_pay3 (v 0)) (k0_pay4 x wq (k 0))) (k0_pay6 k0_pay1 (k0_pay2 x wq) (k 1) (v 1))
      (k0_pay7 (v 2)) (k0_pay8 k0_pay1 (k0_pay2 x wq) (k 2)) (k0_pay9 k0_pay1 (k0_pay2 x wq) (k 2)) (k 3) (v 3) wo = halfOf x wq k v wo := by
  unfold k0_pay10; exact shapeCast_self _ _

/-- and for the second. -/
theorem second_half (x : Vec F S1x256x512 .f32) (wq : Vec F S512x256 .f32) (k v : Fin 4 → Vec F S1x256x1x64 .f32) (wo : Vec F S256x512 .f32)
    (z : FVec F S256x256 .f32) (hz : z = constant S256x256 .f32 0x00000000#32) :
    k0_pay23 k0_pay1 (k0_pay14 k0_pay1 (k0_pay11 x) (k0_pay12 wq) z (k 0) (v 0))
      (k0_pay18 (k0_pay15 (v 1)) (k0_pay16 k0_pay1 (k0_pay11 x) (k0_pay12 wq) z (k 1)) (k0_pay17 k0_pay1 (k0_pay11 x) (k0_pay12 wq) z (k 1)))
      (k0_pay19 k0_pay1 (k0_pay13 (k0_pay11 x) (k0_pay12 wq) z) (k 2) (v 2)) (k0_pay20 (v 3))
      (k0_pay21 (k0_pay13 (k0_pay11 x) (k0_pay12 wq) z) (k 3)) k0_pay22 wo = halfOf x wq k v wo := by
  subst hz; unfold k0_pay23; exact shapeCast_self _ _

/-- The rows of device `c` summed, as the body sums what it has received. -/
theorem sum_chain (P : Dev nD → Vec F S512x512 .bf16) (c : Dev nD) (w : Fin 8 → Vec F S1x64x512 .bf16)
    (hw : ∀ j, j ≠ 0 → (shapeCast S64x512 (w j) shapeCasts_S1x64x512_S64x512 : FVec F S64x512 .bf16) = piece P (og c j) c) :
    k0_pay28 (k0_pay27 (k0_pay25 (k0_pay24 (piece P c c) (w 1)) (w 2) (w 3)) (k0_pay26 (w 4)) (w 5) (w 6)) (w 7) = chunk P c := by
  unfold k0_pay28 k0_pay27 k0_pay26 k0_pay25 k0_pay24
  simp only [hw 1 (by decide), hw 2 (by decide), hw 3 (by decide), hw 4 (by decide), hw 5 (by decide), hw 6 (by decide), hw 7 (by decide)]
  exact shapeCast_self _ _

/-! ## The pieces loaded -/

theorem xRect_inb (b : Fin 2) : ∀ a, (![b.val, 0, 0] : Fin 3 → ℕ) a + S1x256x512.size a ≤ S2x256x512.size a := by revert b; decide
abbrev xRect (b : Fin 2) : Rect S2x256x512 := Rect.unit (s := S2x256x512) ![b.val, 0, 0] S1x256x512.size (xRect_inb b)
theorem kRect_inb (b : Fin 2) (h : Fin 4) : ∀ a, (![b.val, 0, h.val, 0] : Fin 4 → ℕ) a + S1x256x1x64.size a ≤ S2x256x4x64.size a := by revert b h; decide
abbrev kRect (b : Fin 2) (h : Fin 4) : Rect S2x256x4x64 := Rect.unit (s := S2x256x4x64) ![b.val, 0, h.val, 0] S1x256x1x64.size (kRect_inb b h)
theorem half_inb (b : Fin 2) : ∀ a, (![256 * b.val, 0] : Fin 2 → ℕ) a + S256x512.size a ≤ S512x512.size a := by revert b; decide
abbrev halfRect (b : Fin 2) : Rect S512x512 := Rect.unit (s := S512x512) ![256 * b.val, 0] S256x512.size (half_inb b)

def xAt (X : Vec F S2x256x512 .f32) (b : Fin 2) : Vec F S1x256x512 .f32 := fun i => X ((xRect b).emb i)
def kAt (X : Vec F S2x256x4x64 .f32) (b : Fin 2) (h : Fin 4) : Vec F S1x256x1x64 .f32 := fun i => X ((kRect b h).emb i)

set_option backward.proofsInPublic true in
/-- The batch of a row of the partial product, -/
def batOf (i : S512x512.Idx) : Fin 2 := ⟨(i 0).val / 256, by have h : (i 0).val < 512 := (i 0).isLt; omega⟩
set_option backward.proofsInPublic true in
/-- and the index inside it. -/
def inBat (i : S512x512.Idx) : S256x512.Idx := fun
  | ⟨0, _⟩ => ⟨(i 0).val % 256, Nat.mod_lt _ (by decide)⟩
  | ⟨1, _⟩ => ⟨(i 1).val, (i 1).isLt⟩

/-- The partial product of a device from its queries' input, its columns of the query projection, its keys and values
    and its rows of the output projection. -/
def partOf (X : Vec F S2x256x512 .f32) (WQ : Vec F S512x256 .f32) (K V : Vec F S2x256x4x64 .f32) (WO : Vec F S256x512 .f32) : Vec F S512x512 .bf16 :=
  fun i => halfOf (xAt X (batOf i)) WQ (kAt K (batOf i)) (kAt V (batOf i)) WO (inBat i)

set_option backward.proofsInPublic true in
/-- The row of the gathered result a result index is widened from. -/
def flatIx (i : S2x256x512.Idx) : S512x512.Idx := fun
  | ⟨0, _⟩ => ⟨256 * (i 0).val + (i 1).val, by
      have h : (i 0).val < 2 := (i 0).isLt
      have h' : (i 1).val < 256 := (i 1).isLt
      show _ < 512; omega⟩
  | ⟨1, _⟩ => ⟨(i 2).val, (i 2).isLt⟩

/-- The result: the gathered rows, widened, one batch after the other. -/
def outOf (P : Dev nD → Vec F S512x512 .bf16) : Vec F S2x256x512 .f32 :=
  fun i => (extf .f32 (gathered P) bitsLt_bf16_f32 : FVec F S512x512 .f32) (flatIx i)

/-! ## Where rectangles land -/

theorem batOf_emb (b : Fin 2) (y : S256x512.Idx) : batOf ((halfRect b).emb y) = b := by
  apply Fin.ext
  show ((halfRect b).emb y 0).val / 256 = b.val
  rw [ValueKit.rect_emb_unit_val]
  have h : (y 0).val < 256 := (y 0).isLt
  show (256 * b.val + (y 0).val) / 256 = b.val; omega
theorem inBat_emb (b : Fin 2) (y : S256x512.Idx) : inBat ((halfRect b).emb y) = y := by
  refine Shape.idx_ext₂ ?_ ?_
  · show ((halfRect b).emb y 0).val % 256 = (y 0).val
    rw [ValueKit.rect_emb_unit_val]
    have h : (y 0).val < 256 := (y 0).isLt
    show (256 * b.val + (y 0).val) % 256 = _; omega
  · show ((halfRect b).emb y 1).val = (y 1).val
    rw [ValueKit.rect_emb_unit_val]; show 0 + (y 1).val = _; omega
theorem devOf_emb (t : Dev nD) (y : S64x512.Idx) : devOf ((rowRect t).emb y) = t := by
  apply Fin.ext
  show ((rowRect t).emb y 0).val / 64 = t.val
  rw [ValueKit.rect_emb_unit_val]
  have h : (y 0).val < 64 := (y 0).isLt
  show (64 * t.val + (y 0).val) / 64 = t.val; omega
theorem inRow_emb (t : Dev nD) (y : S64x512.Idx) : inRow ((rowRect t).emb y) = y := by
  refine Shape.idx_ext₂ ?_ ?_
  · show ((rowRect t).emb y 0).val % 64 = (y 0).val
    rw [ValueKit.rect_emb_unit_val]
    have h : (y 0).val < 64 := (y 0).isLt
    show (64 * t.val + (y 0).val) % 64 = _; omega
  · show ((rowRect t).emb y 1).val = (y 1).val
    rw [ValueKit.rect_emb_unit_val]; show 0 + (y 1).val = _; omega

theorem mem_row (t : Dev nD) (i : S512x512.Idx) : i ∈ (rowRect t).set ↔ (i 0).val / 64 = t.val := by
  rw [Rect.mem_set_unit]
  have h1 : (i 1).val < 512 := (i 1).isLt
  constructor
  · intro h
    have h0 : 64 * t.val ≤ (i 0).val ∧ (i 0).val < 64 * t.val + 64 := h 0
    omega
  · intro h a
    match a with
    | ⟨0, _⟩ => show 64 * t.val ≤ (i 0).val ∧ (i 0).val < 64 * t.val + 64; omega
    | ⟨1, _⟩ => show 0 ≤ (i 1).val ∧ (i 1).val < 0 + 512; omega
theorem mem_half (b : Fin 2) (i : S512x512.Idx) : i ∈ (halfRect b).set ↔ (i 0).val / 256 = b.val := by
  rw [Rect.mem_set_unit]
  have h1 : (i 1).val < 512 := (i 1).isLt
  constructor
  · intro h
    have h0 : 256 * b.val ≤ (i 0).val ∧ (i 0).val < 256 * b.val + 256 := h 0
    omega
  · intro h a
    match a with
    | ⟨0, _⟩ => show 256 * b.val ≤ (i 0).val ∧ (i 0).val < 256 * b.val + 256; omega
    | ⟨1, _⟩ => show 0 ≤ (i 1).val ∧ (i 1).val < 0 + 512; omega
theorem mem_slot (j : Fin 8) (i : S8x64x512.Idx) : i ∈ (slotRect j).set ↔ (i 0).val = j.val := by
  rw [Rect.mem_set_unit]
  have h1 : (i 1).val < 64 := (i 1).isLt
  have h2 : (i 2).val < 512 := (i 2).isLt
  constructor
  · intro h
    have h0 : j.val ≤ (i 0).val ∧ (i 0).val < j.val + 1 := h 0
    omega
  · intro h a
    match a with
    | ⟨0, _⟩ => show j.val ≤ (i 0).val ∧ (i 0).val < j.val + 1; omega
    | ⟨1, _⟩ => show 0 ≤ (i 1).val ∧ (i 1).val < 0 + 64; omega
    | ⟨2, _⟩ => show 0 ≤ (i 2).val ∧ (i 2).val < 0 + 512; omega
theorem mem_xRect (b : Fin 2) (i : S2x256x512.Idx) : i ∈ (xRect b).set ↔ (i 0).val = b.val := by
  rw [Rect.mem_set_unit]
  have h1 : (i 1).val < 256 := (i 1).isLt
  have h2 : (i 2).val < 512 := (i 2).isLt
  constructor
  · intro h
    have h0 : b.val ≤ (i 0).val ∧ (i 0).val < b.val + 1 := h 0
    omega
  · intro h a
    match a with
    | ⟨0, _⟩ => show b.val ≤ (i 0).val ∧ (i 0).val < b.val + 1; omega
    | ⟨1, _⟩ => show 0 ≤ (i 1).val ∧ (i 1).val < 0 + 256; omega
    | ⟨2, _⟩ => show 0 ≤ (i 2).val ∧ (i 2).val < 0 + 512; omega

theorem set_part (t : Dev nD) : (partM t).view.set = (rowRect t).set := View.set_slice_whole _ _
theorem set_acc (t : Dev nD) : (accM t).view.set = (rowRect t).set := View.set_slice_whole _ _
theorem set_slot (j : Fin 8) : (slotM j).view.set = (slotRect j).set := (View.set_reshape _ _).trans (View.set_slice_whole _ _)
theorem set_chunk : chunkW.view.set = Finset.univ := View.set_whole _

/-! ## Contents after a store through a view -/

/-- A store through a view, at an element the view holds, when the wanted contents read back as what was stored. -/
theorem write_at {κ : Kind} {sp : Space} {s : Shape} {e : EltTy} (v : View sig κ sp s e) (f g : v.ty.Contents (Elt F)) (w : s.Idx → Elt F e)
    (h : v.read (Elt F) g = w) (i : v.ty.Idx) (hi : i ∈ v.set) : v.write (Elt F) f w Finset.univ i = g i := by
  obtain ⟨y, rfl⟩ := View.exists_emb_of_mem_set v hi
  rw [View.write_emb_of_mem _ _ (Finset.mem_univ y), ← h, View.read_apply, cast_cast, cast_eq]

/-! ## Buffers held piece by piece -/

theorem emp_left (X : sProp 𝕄) : iprop(emp ∗ X) = X := BI.equiv_iff.mp emp_sep
theorem emp_right (X : sProp 𝕄) : iprop(X ∗ emp) = X := BI.equiv_iff.mp sep_emp

theorem row_disjoint (t t' : Dev nD) (h : t ≠ t') : Disjoint (rowRect t).set (rowRect t').set := by
  rw [Finset.disjoint_left]; intro i hi hi'
  rw [mem_row] at hi hi'
  exact h (Fin.ext (hi.symm.trans hi'))
theorem row_cover : Finset.univ.biUnion (fun t : Dev nD => (rowRect t).set) = Finset.univ := by
  ext i
  simp only [Finset.mem_biUnion, Finset.mem_univ, true_and, iff_true]
  exact ⟨devOf i, (mem_row _ _).mpr rfl⟩
theorem slot_disjoint (t t' : Fin 8) (h : t ≠ t') : Disjoint (slotRect t).set (slotRect t').set := by
  rw [Finset.disjoint_left]; intro i hi hi'
  rw [mem_slot] at hi hi'
  exact h (Fin.ext (hi.symm.trans hi'))
theorem slot_cover : Finset.univ.biUnion (fun t : Fin 8 => (slotRect t).set) = Finset.univ := by
  ext i
  simp only [Finset.mem_biUnion, Finset.mem_univ, true_and, iff_true]
  exact ⟨(i 0 : Fin 8), (mem_slot _ _).mpr rfl⟩

theorem half_cover : (halfRect 0).set ∪ (halfRect 1).set = Finset.univ := by
  ext i
  simp only [Finset.mem_union, Finset.mem_univ, iff_true, mem_half]
  have h1 : (i 0).val < 512 := (i 0).isLt
  show (i 0).val / 256 = 0 ∨ (i 0).val / 256 = 1; omega
theorem half_disjoint : Disjoint (halfRect 0).set (halfRect 1).set := by
  rw [Finset.disjoint_left]; intro i hi hi'
  rw [mem_half] at hi hi'
  have : (0 : Fin 2).val = (1 : Fin 2).val := hi.symm.trans hi'
  exact absurd this (by decide)

section

variable (P : Dev nD → Vec F S512x512 .bf16) (c : Dev nD)

/-- A device's half of the partial product buffer, at contents `f`. -/
def halfAt (b : Fin 2) (f : Vec F S512x512 .bf16) : sProp 𝕄 := partW.view.loc (c : Thread nD τ) ↦[(halfRect b).set]{fullShare} f

theorem part_split (f : Vec F S512x512 .bf16) :
    (partW.view.loc (c : Thread nD τ) ↦{fullShare} f : sProp 𝕄) = iprop(halfAt c 0 f ∗ halfAt c 1 f) := by
  unfold halfAt
  rw [← BI.Entails.antisymm (pointsTo_union (ℓ := partW.view.loc (c : Thread nD τ)) half_disjoint).1 (pointsTo_union half_disjoint).2, half_cover]

/-- The own rows, when they are of batch `b`. -/
def ownRow (b : Fin 2) : sProp 𝕄 := if c.val / 4 = b.val then rowsAt P c c else iprop(emp)

theorem half_rows (b : Fin 2) : (halfAt c b (P c) : sProp 𝕄) = iprop(ownRow P c b ∗ rows P c b.val 0) := by
  have hset : (halfRect b).set = (Finset.univ.filter fun t : Dev nD => t.val / 4 = b.val).biUnion fun t => (rowRect t).set := by
    ext i
    simp only [Finset.mem_biUnion, Finset.mem_filter, Finset.mem_univ, true_and, mem_half, mem_row]
    constructor
    · intro h
      refine ⟨devOf i, ?_, rfl⟩
      show (i 0).val / 64 / 4 = b.val; omega
    · rintro ⟨t, ht, e⟩; omega
  unfold halfAt
  rw [hset, pointsTo_biUnion _ _ (fun t _ t' _ h => row_disjoint t t' h), bigSep_filter]
  rw [bigSep_univ_equiv (peAll c), bigSep_univ_at _ (0 : Fin 8)]
  unfold ownRow rows
  rw [bigSep_univ_at (fun j : Fin 8 => if (pe c j).val / 4 = b.val ∧ 0 < j.val then rowsAt P c (pe c j) else iprop(emp)) (0 : Fin 8)]
  rw [if_neg (show ¬((pe c 0).val / 4 = b.val ∧ 0 < (0 : Fin 8).val) from fun h => Nat.lt_irrefl 0 h.2), emp_left]
  congr 1
  · show (if (pe c 0).val / 4 = b.val then _ else _) = _
    rw [show (peAll c) 0 = c from pe_zero c, pe_zero]; unfold rowsAt; rw [set_part]; rfl
  · refine bigSep_congr fun j hj => ?_
    have hj0 : 0 < j.val := Nat.pos_of_ne_zero fun e => Finset.ne_of_mem_erase hj (Fin.ext e)
    show (if (pe c j).val / 4 = b.val then _ else _) = _
    unfold rowsAt; rw [set_part]
    by_cases h : (pe c j).val / 4 = b.val
    · rw [if_pos h, if_pos ⟨h, hj0⟩]; rfl
    · rw [if_neg h, if_neg fun e => h e.1]; rfl

theorem own_rows : iprop(ownRow P c 0 ∗ ownRow P c 1) = (rowsAt P c c : sProp 𝕄) := by
  unfold ownRow
  have h8 : c.val < 8 := c.isLt
  by_cases h : c.val / 4 = (0 : Fin 2).val
  · rw [if_pos h, if_neg (show ¬ c.val / 4 = (1 : Fin 2).val by rw [h]; decide), emp_right]
  · rw [if_neg h, if_pos (show c.val / 4 = (1 : Fin 2).val by show c.val / 4 = 1; have : c.val / 4 ≠ 0 := h; omega), emp_left]

/-- All rows back: the partial product buffer whole. -/
theorem rows_back : bigSep Finset.univ (fun j : Fin 8 => rowsAt P c (pe c j)) ⊢ (iprop(∃ f, partW.view.loc (c : Thread nD τ) ↦{fullShare} f) : sProp 𝕄) := by
  have e : bigSep Finset.univ (fun j : Fin 8 => (rowsAt P c (pe c j) : sProp 𝕄)) = (partW.view.loc (c : Thread nD τ) ↦{fullShare} (P c)) := by
    rw [Ring.pointsTo_blocks (ℓ := partW.view.loc (c : Thread nD τ)) (fun t : Dev nD => (rowRect t).set) row_disjoint row_cover (P c),
      bigSep_univ_equiv (peAll c) (fun t : Dev nD => (partW.view.loc (c : Thread nD τ) ↦[(rowRect t).set]{fullShare} (P c) : sProp 𝕄))]
    refine bigSep_congr fun j _ => ?_
    unfold rowsAt; rw [set_part]; rfl
  rw [e]
  iintro H; iexists (P c); iexact H

/-- The landing slots, one by one, at contents not chosen; -/
theorem slot_split (f : Vec F S8x64x512 .bf16) :
    (slotW.view.loc (c : Thread nD τ) ↦{fullShare} f : sProp 𝕄) ⊢ bigSep Finset.univ fun j : Fin 8 => anyAt c (slotM j) := by
  rw [Ring.pointsTo_blocks (ℓ := slotW.view.loc (c : Thread nD τ)) (fun t : Fin 8 => (slotRect t).set) slot_disjoint slot_cover f]
  refine bigSep_mono fun j _ => ?_
  have h : (slotW.view.loc (c : Thread nD τ) ↦[(slotRect j).set]{fullShare} f : sProp 𝕄) ⊢ anyAt c (slotM j) := by
    unfold anyAt; rw [set_slot]
    iintro H; iexists f; iexact H
  exact h
/-- and back. -/
theorem slot_back : (bigSep Finset.univ fun j : Fin 8 => anyAt c (slotM j)) ⊢ (iprop(∃ f, slotW.view.loc (c : Thread nD τ) ↦{fullShare} f) : sProp 𝕄) := by
  rw [bigSep_congr (Ψ := fun j : Fin 8 => (iprop(∃ f, slotW.view.loc (c : Thread nD τ) ↦[(slotRect j).set]{fullShare} f) : sProp 𝕄))
    fun j _ => by unfold anyAt; rw [set_slot]]
  exact Ring.pointsTo_blocks_join_exists (ℓ := slotW.view.loc (c : Thread nD τ)) (fun t : Fin 8 => (slotRect t).set) slot_disjoint slot_cover
    (fun _ => Scalar.ofBits .bf16 0#16)
theorem slotPay_any (j : Fin 8) : slotPay P c j ⊢ (anyAt c (slotM j) : sProp 𝕄) := by
  unfold slotPay owns anyAt
  iintro ⟨%f, %h, H⟩; iexists f; iexact H

/-- The rows of the gathered result, one by one, -/
theorem acc_split (f : Vec F S512x512 .bf16) :
    (accW.view.loc (c : Thread nD τ) ↦{fullShare} f : sProp 𝕄) ⊢ bigSep Finset.univ fun j : Fin 8 => anyAt c (accM (pe c j)) := by
  rw [Ring.pointsTo_blocks (ℓ := accW.view.loc (c : Thread nD τ)) (fun t : Dev nD => (rowRect t).set) row_disjoint row_cover f,
    bigSep_univ_equiv (peAll c) (fun t : Dev nD => (accW.view.loc (c : Thread nD τ) ↦[(rowRect t).set]{fullShare} f : sProp 𝕄))]
  refine bigSep_mono fun j _ => ?_
  have h : (accW.view.loc (c : Thread nD τ) ↦[(rowRect (pe c j)).set]{fullShare} f : sProp 𝕄) ⊢ anyAt c (accM (pe c j)) := by
    unfold anyAt; rw [set_acc]
    iintro H; iexists f; iexact H
  exact h

/-- one device's rows as received are that device's rows of the gathered result, -/
theorem accPay_gathered (j : Fin 8) :
    accPay P c j ⊢ (accW.view.loc (c : Thread nD τ) ↦[(rowRect (og c j)).set]{fullShare} (gathered P) : sProp 𝕄) := by
  unfold accPay owns
  iintro ⟨%f, %h, H⟩
  have e : ((accM (og c j)).view.loc (c : Thread nD τ) ↦[(accM (og c j)).view.set]{fullShare} f : sProp 𝕄)
      = (accW.view.loc (c : Thread nD τ) ↦[(rowRect (og c j)).set]{fullShare} (gathered P)) := by
    rw [set_acc]
    refine pointsTo_congr fun i hi => ?_
    rw [← set_acc] at hi
    obtain ⟨y, rfl⟩ := View.exists_emb_of_mem_set _ hi
    have h1 : f ((accM (og c j)).view.emb y) = chunk P (og c j) y := congrFun h y
    have h2 : gathered P ((rowRect (og c j)).emb y) = chunk P (og c j) y := by
      unfold gathered; rw [devOf_emb, inRow_emb]
    exact h1.trans h2.symm
  rw [← e]; iexact H

/-- and all of them are the gathered result. -/
theorem acc_back : bigSep Finset.univ (accPay P c) ⊢ (accW.view.loc (c : Thread nD τ) ↦{fullShare} (gathered P) : sProp 𝕄) := by
  rw [Ring.pointsTo_blocks (ℓ := accW.view.loc (c : Thread nD τ)) (fun t : Dev nD => (rowRect t).set) row_disjoint row_cover (gathered P),
    bigSep_univ_equiv (ogAll c) (fun t : Dev nD => (accW.view.loc (c : Thread nD τ) ↦[(rowRect t).set]{fullShare} (gathered P) : sProp 𝕄))]
  exact bigSep_mono fun j _ => accPay_gathered P c j

/-- The summed rows in eight shares. -/
theorem chunk_leaves : (chunkW.view.loc (c : Thread nD τ) ↦{fullShare} (chunk P c) : sProp 𝕄) = bigSep Finset.univ fun j : Fin 8 => chunkAt P c j := by
  rw [ShareLeaves.pointsTo_leaves (ℓ := chunkW.view.loc (c : Thread nD τ)) Finset.univ (chunk P c) 3 fullShare]
  unfold chunkAt; rw [set_chunk]; rfl

end

/-! ## The result buffer after its two stores -/

theorem pay30_eq (v : Vec F S256x512 .bf16) : k0_pay30 v = shapeCast S1x256x512 (extf .f32 v bitsLt_bf16_f32 : FVec F S256x512 .f32) shapeCasts_S256x512_S1x256x512 := rfl
theorem pay31_eq (v : Vec F S256x512 .bf16) : k0_pay31 v = k0_pay30 v := rfl

theorem out_read (P : Dev nD → Vec F S512x512 .bf16) (b : Fin 2) :
    (fun y => outOf P ((xRect b).emb y)) = k0_pay30 (fun y => gathered P ((halfRect b).emb y)) := by
  rw [pay30_eq]
  funext y
  refine Eq.symm ((shapeCast_addUnit_apply (n := 2) ![256, 512] _ _ y).trans ?_)
  have hz : ∀ z : S256x512.Idx, (z 0).val = (y 1).val → (z 1).val = (y 2).val →
      (extf .f32 (gathered P) bitsLt_bf16_f32 : FVec F S512x512 .f32) ((halfRect b).emb z) = outOf P ((xRect b).emb y) := by
    intro z z0 z1
    unfold outOf
    congr 1
    have h0 : (y 0).val < 1 := (y 0).isLt
    have e0 : ((xRect b).emb y 0).val = b.val + (y 0).val := ValueKit.rect_emb_unit_val _ _ _ _ _
    have e1 : ((xRect b).emb y 1).val = 0 + (y 1).val := ValueKit.rect_emb_unit_val _ _ _ _ _
    have e2 : ((xRect b).emb y 2).val = 0 + (y 2).val := ValueKit.rect_emb_unit_val _ _ _ _ _
    refine Shape.idx_ext₂ ?_ ?_
    · show ((halfRect b).emb z 0).val = 256 * ((xRect b).emb y 0).val + ((xRect b).emb y 1).val
      rw [ValueKit.rect_emb_unit_val, e0, e1]
      show 256 * b.val + (z 0).val = _; omega
    · show ((halfRect b).emb z 1).val = ((xRect b).emb y 2).val
      rw [ValueKit.rect_emb_unit_val, e2]
      show 0 + (z 1).val = _; omega
  exact hz _ rfl rfl

end Cert.Exchange
-- ==== Proof.Body1.lean ====
/-
The body of one device, first stretch: the barrier and the first batch of the partial product.
-/
module

public import proofs.«01_k».proof.Proof.Values

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A stretch of the body, or the whole of it, at the buffers it is launched with. -/
abbrev atArgs {β : Type 1} (f : (arg0 : Memref sig .tc .vmem S2x256x512 .f32) → arg0.IsWhole → (arg1 : Memref sig .tc .vmem S512x256 .f32) → arg1.IsWhole →
    (arg2 : Memref sig .tc .vmem S2x256x4x64 .f32) → arg2.IsWhole → (arg3 : Memref sig .tc .vmem S2x256x4x64 .f32) → arg3.IsWhole →
    (arg4 : Memref sig .tc .vmem S256x512 .f32) → arg4.IsWhole → (arg5 : Memref sig .tc .vmem S2x256x512 .f32) → arg5.IsWhole →
    (arg6 : Memref sig .tc .vmem S512x512 .bf16) → arg6.IsWhole → (arg7 : Memref sig .tc .vmem S8x64x512 .bf16) → arg7.IsWhole →
    (arg8 : Memref sig .tc .vmem S64x512 .bf16) → arg8.IsWhole → (arg9 : Memref sig .tc .vmem S512x512 .bf16) → arg9.IsWhole →
    DmaSems sig S8 → DmaSems sig S8 → DmaSems sig S8 → DmaSems sig S8 → β) : β :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7

/-- What a program of device `c` makes true. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A load, with the loaded value named. -/
theorem load_step (c : Dev nD) {cs : CoreSpace} {s : Shape} {e : EltTy} {m : Memref sig .tc cs s e} {r : Rect s} {hl : m.view.LoadsAt r.toLoadRect}
    {S : Finset (Idx ((m.access r).loc (c : Thread nD τ)))} {q : PosShare TreeShare} {f : Buf (Elt F) ((m.access r).loc (c : Thread nD τ))}
    (hS : (m.access r).set ⊆ S) (w : r.shape.Idx → Elt F e) (hw : (m.access r).read (Elt F) f = w)
    {α : Type} {Q : α → sProp 𝕄} {kk : (r.shape.Idx → Elt F e) → Prog (TpuEff nD τ sig (Elt F) Λ₀ .tc) α} :
    ((m.access r).loc (c : Thread nD τ) ↦[S]{q} f)
      ⊢ iprop((((m.access r).loc (c : Thread nD τ) ↦[S]{q} f) -∗ run c (kk w) Q) -∗ run c (.op (.load m r.toLoadRect hl) kk) Q) := by
  subst hw
  iintro H Hk
  iapply (wp_load_rect 𝒱₀ (c : Thread nD τ) none Set.univ (m := m) (r := r) (k := kk) hS) $$ H
  iexact Hk

/-- A store whose contents, on the elements held, are those of `g`. -/
theorem store_step (c : Dev nD) {cs : CoreSpace} {s : Shape} {e : EltTy} {m : Memref sig .tc cs s e} {r : Rect s} {w : r.shape.Idx → Elt F e}
    {hx : (m.access r).Stores Finset.univ} {hm : Finset.univ = Finset.univ ∨ ∀ a, r.stride a = 1}
    {S : Finset (Idx ((m.access r).loc (c : Thread nD τ)))} {f : Buf (Elt F) ((m.access r).loc (c : Thread nD τ))}
    (hS : (m.access r).set ⊆ S) (g : Buf (Elt F) ((m.access r).loc (c : Thread nD τ)))
    (hg : ∀ i ∈ S, (m.access r).write (Elt F) f w Finset.univ i = g i)
    {α : Type} {Q : α → sProp 𝕄} {kk : PUnit → Prog (TpuEff nD τ sig (Elt F) Λ₀ .tc) α} :
    ((m.access r).loc (c : Thread nD τ) ↦[S]{fullShare} f)
      ⊢ iprop((((m.access r).loc (c : Thread nD τ) ↦[S]{fullShare} g) -∗ run c (kk ⟨⟩) Q) -∗ run c (.op (.store m r w Finset.univ hx hm) kk) Q) := by
  rw [← pointsTo_congr (f := (m.access r).write (Elt F) f w Finset.univ) (g := g) hg]
  iintro H Hk
  iapply (wp_store 𝒱₀ (c : Thread nD τ) none Set.univ (m := m) (r := r) (w := w) (k := kk) (by rw [View.setOn_univ]; exact hS)) $$ H
  iexact Hk

section

variable (P : Dev nD → Vec F S512x512 .bf16) (K : GSem nD τ sig → ℕ) (c : Dev nD)

/-! ## The peers, as the body computes them -/

theorem to1 (c : Dev nD) : (⟨k0_dev1 c, k0_dev1_lt c⟩ : Dev nD) = pe c 1 := Fin.ext (k0_dev1_eq c)
theorem to2 (c : Dev nD) : (⟨k0_dev2 c, k0_dev2_lt c⟩ : Dev nD) = pe c 2 := Fin.ext (k0_dev2_eq c)
theorem to3 (c : Dev nD) : (⟨k0_dev3 c, k0_dev3_lt c⟩ : Dev nD) = pe c 3 := Fin.ext (k0_dev3_eq c)
theorem to4 (c : Dev nD) : (⟨k0_dev4 c, k0_dev4_lt c⟩ : Dev nD) = pe c 4 := Fin.ext (k0_dev4_eq c)
theorem to5 (c : Dev nD) : (⟨k0_dev5 c, k0_dev5_lt c⟩ : Dev nD) = pe c 5 := Fin.ext (k0_dev5_eq c)
theorem to6 (c : Dev nD) : (⟨k0_dev6 c, k0_dev6_lt c⟩ : Dev nD) = pe c 6 := Fin.ext (k0_dev6_eq c)
theorem to7 (c : Dev nD) : (⟨k0_dev7 c, k0_dev7_lt c⟩ : Dev nD) = pe c 7 := Fin.ext (k0_dev7_eq c)

/-! ## The barrier -/

theorem part1_run {Q : (Σ' (d0 : Dev nD) (v2 : BitVec 32) (v3 : Sems sig S_) (v24 : BitVec 32), BitVec 32) → sProp 𝕄} :
    ctx (F := F) P K c ⊢ iprop(Owes c (owe c (hi 0) oth oth) -∗ upto 0 (fun _ => iprop(emp)) (sigRes c)
      -∗ (∀ v2 v24 v, (Owes c (owe c (hi 5) oth oth) ∗ upto 5 (fun _ => iprop(emp)) (sigRes c)) -∗ Q ⟨c, v2, SemArray.scalar (sig.barrier 0 rfl), v24, v⟩)
      -∗ run c (atArgs (k0_part1 (F := F))) Q) := by
  rw [k0_part1_eq_skeleton]; unfold k0_part1_skel atArgs run
  simp only [semSignalWord, semWaitWord, Prog.lift, Prog.bind_op, Prog.bind_ret, Prog.pure_eq_ret, wp_deviceId]
  iintro #Hc HO HS Hk
  iapply (signal_step P K c 1 rfl (to1 c) (by decide)) $$ Hc HO HS
  iintro ⟨HO, HS⟩
  iapply (signal_step P K c 2 rfl (to2 c) (by decide)) $$ Hc HO HS
  iintro ⟨HO, HS⟩
  iapply (signal_step P K c 3 rfl (to3 c) (by decide)) $$ Hc HO HS
  iintro ⟨HO, HS⟩
  iapply (signal_step P K c 4 rfl (to4 c) (by decide)) $$ Hc HO HS
  iintro ⟨HO, HS⟩
  iapply (signal_step P K c 5 rfl (to5 c) (by decide)) $$ Hc HO HS
  iintro ⟨HO, HS⟩
  rw [wp_ret]; imodintro
  iapply Hk
  isplitl [HO]; · iexact HO
  iexact HS

theorem part2_run {v2 v24 v8 : BitVec 32} {Q : (Σ' (v33 : BitVec 32) (v36 : BitVec 32) (v39 : BitVec 32) (v42 : BitVec 32) (v45 : BitVec 32) (v48 : BitVec 32), BitVec 32) → sProp 𝕄} :
    ctx (F := F) P K c ⊢ iprop(Owes c (owe c (hi 5) oth oth) -∗ upto 5 (fun _ => iprop(emp)) (sigRes c)
      -∗ cred (tallyAt (bar c) () 7) -∗ atPos ER (bar c) 0 ∅ 0
      -∗ (∀ r, (Owes c (owe c ∅ oth oth) ∗ semVal (bar c) 0 ∗ bigSep oth (fun e => barPay c e)) -∗ Q r)
      -∗ run c (atArgs (k0_part2 (F := F)) c v2 (SemArray.scalar (sig.barrier 0 rfl)) v24 v8) Q) := by
  rw [k0_part2_eq_skeleton]; unfold k0_part2_skel atArgs run
  simp only [semSignalWord, semWaitWord, Prog.lift, Prog.bind_op, Prog.bind_ret, Prog.pure_eq_ret]
  iintro #Hc HO HS Hcr Hat Hk
  iapply (signal_step P K c 6 rfl (to6 c) (by decide)) $$ Hc HO HS
  iintro ⟨HO, HS⟩
  iapply (signal_step P K c 7 rfl (to7 c) (by decide)) $$ Hc HO HS
  iintro ⟨HO, -⟩
  rw [show hi (6 + 1) = ∅ from hi_seven]
  iapply (barrier_wait P K c (by decide)) $$ Hc HO Hcr Hat
  iintro H
  rw [wp_ret]; imodintro
  iapply Hk $$ H

end

/-! ## The first batch -/

section

variable (P : Dev nD → Vec F S512x512 .bf16) (c : Dev nD)
variable (X : Vec F S2x256x512 .f32) (WQ : Vec F S512x256 .f32) (KK VV : Vec F S2x256x4x64 .f32) (WO : Vec F S256x512 .f32)

/-- The blocks of the inputs, as staged. -/
def inps : sProp 𝕄 :=
  iprop(((Memref.whole cc0_stg0_0).view.loc (c : Thread nD τ) ↦{fullShare} X) ∗ ((Memref.whole cc0_stg1_0).view.loc (c : Thread nD τ) ↦{fullShare} WQ)
    ∗ ((Memref.whole cc0_stg2_0).view.loc (c : Thread nD τ) ↦{fullShare} KK) ∗ ((Memref.whole cc0_stg3_0).view.loc (c : Thread nD τ) ↦{fullShare} VV)
    ∗ ((Memref.whole cc0_stg4_0).view.loc (c : Thread nD τ) ↦{fullShare} WO))

theorem load_x (b : Fin 2) {α : Type} {Q : α → sProp 𝕄} {hl : (Memref.whole (sig := sig) cc0_stg0_0).view.LoadsAt (xRect b).toLoadRect}
    {kk : Vec F S1x256x512 .f32 → Prog (TpuEff nD τ sig (Elt F) Λ₀ .tc) α} :
    inps c X WQ KK VV WO ⊢ iprop((inps c X WQ KK VV WO -∗ run c (kk (xAt X b)) Q)
      -∗ run c (.op (.load (Memref.whole cc0_stg0_0) (xRect b).toLoadRect hl) kk) Q) := by
  unfold inps
  iintro ⟨H0, H⟩ Hk
  iapply (load_step c (m := Memref.whole cc0_stg0_0) (r := xRect b) (Finset.subset_univ _) (xAt X b) rfl) $$ H0
  iintro H0
  iapply Hk
  isplitl [H0]; · iexact H0
  iexact H

theorem load_wq {α : Type} {Q : α → sProp 𝕄} {hl : (Memref.whole (sig := sig) cc0_stg1_0).view.LoadsAt (Rect.unit (s := S512x256) ![0, 0] S512x256.size inb_S512x256_S512x256_0_0).toLoadRect}
    {kk : Vec F S512x256 .f32 → Prog (TpuEff nD τ sig (Elt F) Λ₀ .tc) α} :
    inps c X WQ KK VV WO ⊢ iprop((inps c X WQ KK VV WO -∗ run c (kk WQ) Q)
      -∗ run c (.op (.load (Memref.whole cc0_stg1_0) (Rect.unit (s := S512x256) ![0, 0] S512x256.size inb_S512x256_S512x256_0_0).toLoadRect hl) kk) Q) := by
  unfold inps
  iintro ⟨H0, H1, H⟩ Hk
  iapply (load_step c (m := Memref.whole cc0_stg1_0) (r := Rect.unit (s := S512x256) ![0, 0] S512x256.size inb_S512x256_S512x256_0_0)
    (Finset.subset_univ _) WQ (Memref.readAt_unit_zero (Elt F) cc0_stg1_0 (funext fun a => by fin_cases a <;> rfl) _ WQ)) $$ H1
  iintro H1
  iapply Hk
  isplitl [H0]; · iexact H0
  isplitl [H1]; · iexact H1
  iexact H

theorem load_k (b : Fin 2) (h : Fin 4) {α : Type} {Q : α → sProp 𝕄} {hl : (Memref.whole (sig := sig) cc0_stg2_0).view.LoadsAt (kRect b h).toLoadRect}
    {kk : Vec F S1x256x1x64 .f32 → Prog (TpuEff nD τ sig (Elt F) Λ₀ .tc) α} :
    inps c X WQ KK VV WO ⊢ iprop((inps c X WQ KK VV WO -∗ run c (kk (kAt KK b h)) Q)
      -∗ run c (.op (.load (Memref.whole cc0_stg2_0) (kRect b h).toLoadRect hl) kk) Q) := by
  unfold inps
  iintro ⟨H0, H1, H2, H⟩ Hk
  iapply (load_step c (m := Memref.whole cc0_stg2_0) (r := kRect b h) (Finset.subset_univ _) (kAt KK b h) rfl) $$ H2
  iintro H2
  iapply Hk
  isplitl [H0]; · iexact H0
  isplitl [H1]; · iexact H1
  isplitl [H2]; · iexact H2
  iexact H

theorem load_v (b : Fin 2) (h : Fin 4) {α : Type} {Q : α → sProp 𝕄} {hl : (Memref.whole (sig := sig) cc0_stg3_0).view.LoadsAt (kRect b h).toLoadRect}
    {kk : Vec F S1x256x1x64 .f32 → Prog (TpuEff nD τ sig (Elt F) Λ₀ .tc) α} :
    inps c X WQ KK VV WO ⊢ iprop((inps c X WQ KK VV WO -∗ run c (kk (kAt VV b h)) Q)
      -∗ run c (.op (.load (Memref.whole cc0_stg3_0) (kRect b h).toLoadRect hl) kk) Q) := by
  unfold inps
  iintro ⟨H0, H1, H2, H3, H⟩ Hk
  iapply (load_step c (m := Memref.whole cc0_stg3_0) (r := kRect b h) (Finset.subset_univ _) (kAt VV b h) rfl) $$ H3
  iintro H3
  iapply Hk
  isplitl [H0]; · iexact H0
  isplitl [H1]; · iexact H1
  isplitl [H2]; · iexact H2
  isplitl [H3]; · iexact H3
  iexact H

theorem load_wo {α : Type} {Q : α → sProp 𝕄} {hl : (Memref.whole (sig := sig) cc0_stg4_0).view.LoadsAt (Rect.unit (s := S256x512) ![0, 0] S256x512.size inb_S256x512_S256x512_0_0).toLoadRect}
    {kk : Vec F S256x512 .f32 → Prog (TpuEff nD τ sig (Elt F) Λ₀ .tc) α} :
    inps c X WQ KK VV WO ⊢ iprop((inps c X WQ KK VV WO -∗ run c (kk WO) Q)
      -∗ run c (.op (.load (Memref.whole cc0_stg4_0) (Rect.unit (s := S256x512) ![0, 0] S256x512.size inb_S256x512_S256x512_0_0).toLoadRect hl) kk) Q) := by
  unfold inps
  iintro ⟨H0, H1, H2, H3, H4⟩ Hk
  iapply (load_step c (m := Memref.whole cc0_stg4_0) (r := Rect.unit (s := S256x512) ![0, 0] S256x512.size inb_S256x512_S256x512_0_0)
    (Finset.subset_univ _) WO (Memref.readAt_unit_zero (Elt F) cc0_stg4_0 (funext fun a => by fin_cases a <;> rfl) _ WO)) $$ H4
  iintro H4
  iapply Hk
  isplitl [H0]; · iexact H0
  isplitl [H1]; · iexact H1
  isplitl [H2]; · iexact H2
  isplitl [H3]; · iexact H3
  iexact H4

end

/-- A program that has returned. -/
theorem ret_step (c : Dev nD) {α : Type} {Q : α → sProp 𝕄} (a : α) : Q a ⊢ run (F := F) c (.ret a) Q := by
  unfold run
  rw [wp_ret]
  iintro H
  imodintro
  iexact H

section

variable (P : Dev nD → Vec F S512x512 .bf16) (c : Dev nD)
variable (X : Vec F S2x256x512 .f32) (WQ : Vec F S512x256 .f32) (KK VV : Vec F S2x256x4x64 .f32) (WO : Vec F S256x512 .f32)

theorem part3_run {v51 : BitVec 32} {Q : (Σ' (v64 : IVec S256x256 1) (v69 : FVec F S256x256 .f32) (v74 : FVec F S256x64 .f32), FVec F S256x256 .f32) → sProp 𝕄} :
    inps c X WQ KK VV WO ⊢ iprop((inps c X WQ KK VV WO -∗ Q ⟨k0_pay1, k0_pay2 (xAt X 0) WQ, k0_pay3 (kAt VV 0 0), k0_pay4 (xAt X 0) WQ (kAt KK 0 0)⟩)
      -∗ run c (atArgs (k0_part3 (F := F)) v51) Q) := by
  rw [k0_part3_eq_skeleton]; unfold k0_part3_skel atArgs
  simp only [Prog.lift, Prog.bind_op, Prog.bind_ret, Prog.pure_eq_ret]
  iintro HI Hk
  iapply (load_x c X WQ KK VV WO 0) $$ HI
  iintro HI
  iapply (load_wq c X WQ KK VV WO) $$ HI
  iintro HI
  iapply (load_k c X WQ KK VV WO 0 0) $$ HI
  iintro HI
  iapply (load_v c X WQ KK VV WO 0 0) $$ HI
  iintro HI
  iapply (ret_step c)
  iapply Hk $$ HI

theorem part4_run {v64 : IVec S256x256 1} {v69 : FVec F S256x256 .f32} {v74 : FVec F S256x64 .f32} {v88 : FVec F S256x256 .f32}
    {Q : (Σ' (v89 : FVec F S256x64 .f32) (v109 : FVec F S256x64 .f32) (v114 : FVec F S256x64 .f32) (v119 : FVec F S256x256 .f32), FVec F S256x1 .f32) → sProp 𝕄} :
    inps c X WQ KK VV WO ⊢ iprop((inps c X WQ KK VV WO -∗ Q ⟨k0_pay5 v74 v88, k0_pay6 v64 v69 (kAt KK 0 1) (kAt VV 0 1), k0_pay7 (kAt VV 0 2),
          k0_pay8 v64 v69 (kAt KK 0 2), k0_pay9 v64 v69 (kAt KK 0 2)⟩)
      -∗ run c (atArgs (k0_part4 (F := F)) v64 v69 v74 v88) Q) := by
  rw [k0_part4_eq_skeleton]; unfold k0_part4_skel atArgs
  simp only [Prog.lift, Prog.bind_op, Prog.bind_ret, Prog.pure_eq_ret]
  iintro HI Hk
  iapply (load_k c X WQ KK VV WO 0 1) $$ HI
  iintro HI
  iapply (load_v c X WQ KK VV WO 0 1) $$ HI
  iintro HI
  iapply (load_k c X WQ KK VV WO 0 2) $$ HI
  iintro HI
  iapply (load_v c X WQ KK VV WO 0 2) $$ HI
  iintro HI
  iapply (ret_step c)
  iapply Hk $$ HI

/-- The half of the partial product that a batch fills. -/
theorem half_set (b : Fin 2) : ((Memref.whole cc0_scratch0).access (halfRect b)).set = (halfRect b).set := View.set_slice_whole _ _

/-- A load of one batch's half of the partial product, the value not used. -/
theorem load_half (b : Fin 2) (f : Vec F S512x512 .bf16) {hl : (Memref.whole (sig := sig) cc0_scratch0).view.LoadsAt (halfRect b).toLoadRect}
    {α : Type} {Q : α → sProp 𝕄} {kk : Vec F S256x512 .bf16 → Prog (TpuEff nD τ sig (Elt F) Λ₀ .tc) α} :
    halfAt c b f ⊢ iprop((∀ w, halfAt c b f -∗ run c (kk w) Q) -∗ run c (.op (.load (Memref.whole cc0_scratch0) (halfRect b).toLoadRect hl) kk) Q) := by
  unfold halfAt
  iintro H Hk
  iapply (load_step c (m := Memref.whole cc0_scratch0) (r := halfRect b) (f := f) (q := fullShare) (half_set b).le _ rfl) $$ H
  iintro H
  iapply Hk $$ H

/-- The store of one batch's half of the partial product. -/
theorem store_half (b : Fin 2) (f : Vec F S512x512 .bf16) (w : Vec F S256x512 .bf16)
    (hw : ∀ y : S256x512.Idx, P c ((halfRect b).emb y) = w y)
    {hx : ((Memref.whole cc0_scratch0).access (halfRect b)).Stores Finset.univ} {hm : Finset.univ = Finset.univ ∨ ∀ a, (halfRect b).stride a = 1}
    {α : Type} {Q : α → sProp 𝕄} {kk : PUnit → Prog (TpuEff nD τ sig (Elt F) Λ₀ .tc) α} :
    halfAt c b f ⊢ iprop((halfAt c b (P c) -∗ run c (kk ⟨⟩) Q)
      -∗ run c (.op (.store (Memref.whole cc0_scratch0) (halfRect b) w Finset.univ hx hm) kk) Q) := by
  have hr : View.read (Elt F) ((Memref.whole cc0_scratch0).access (halfRect b)) (P c) = w := funext hw
  have hg : ∀ i ∈ (halfRect b).set, ((Memref.whole cc0_scratch0).access (halfRect b)).write (Elt F) f w Finset.univ i = P c i :=
    fun i hi => write_at ((Memref.whole cc0_scratch0).access (halfRect b)) f (P c) w hr i ((half_set b).symm ▸ hi)
  unfold halfAt
  iintro H Hk
  iapply (store_step c (m := Memref.whole cc0_scratch0) (r := halfRect b) (w := w) (hx := hx) (hm := hm) (S := (halfRect b).set) (f := f)
    (half_set b).le (P c) hg) $$ H
  iexact Hk

theorem part5_run (f : Vec F S512x512 .bf16) {v2 : BitVec 32} {v64 : IVec S256x256 1} {v69 : FVec F S256x256 .f32} {v89 v109 v114 : FVec F S256x64 .f32} {v119 : FVec F S256x256 .f32} {v121 : FVec F S256x1 .f32}
    (hw : ∀ y, P c ((halfRect 0).emb y) = k0_pay10 v64 v69 v89 v109 v114 v119 v121 (kAt KK 0 3) (kAt VV 0 3) WO y)
    {Q : BitVec 32 → sProp 𝕄} :
    inps c X WQ KK VV WO ⊢ iprop(halfAt c 0 f -∗ (∀ v, (inps c X WQ KK VV WO ∗ halfAt c 0 (P c)) -∗ Q v)
      -∗ run c (atArgs (k0_part5 (F := F)) v2 v64 v69 v89 v109 v114 v119 v121) Q) := by
  rw [k0_part5_eq_skeleton]; unfold k0_part5_skel atArgs
  simp only [Prog.lift, Prog.bind_op, Prog.bind_ret, Prog.pure_eq_ret]
  iintro HI HP Hk
  iapply (load_k c X WQ KK VV WO 0 3) $$ HI
  iintro HI
  iapply (load_v c X WQ KK VV WO 0 3) $$ HI
  iintro HI
  iapply (load_wo c X WQ KK VV WO) $$ HI
  iintro HI
  iapply (load_half c 0 f) $$ HP
  iintro %w HP
  iapply (store_half P c 0 f _ hw) $$ HP
  iintro HP
  iapply (ret_step c)
  iapply Hk
  isplitl [HI]; · iexact HI
  iexact HP

/-! ## The second batch, up to its store -/

theorem part8_run {v64 : IVec S256x256 1} {v208 : FVec F S256x512 .f32} {v210 : FVec F S512x256 .f32} {z : FVec F S256x256 .f32}
    {Q : (Σ' (v211 : FVec F S256x256 .f32) (v231 : FVec F S256x64 .f32) (v236 : FVec F S256x64 .f32) (v241 : FVec F S256x256 .f32), FVec F S256x256 .f32) → sProp 𝕄} :
    inps c X WQ KK VV WO ⊢ iprop((inps c X WQ KK VV WO -∗ Q ⟨k0_pay13 v208 v210 z, k0_pay14 v64 v208 v210 z (kAt KK 1 0) (kAt VV 1 0), k0_pay15 (kAt VV 1 1),
          k0_pay16 v64 v208 v210 z (kAt KK 1 1), k0_pay17 v64 v208 v210 z (kAt KK 1 1)⟩)
      -∗ run c (atArgs (k0_part8 (F := F)) v64 v208 v210 z) Q) := by
  rw [k0_part8_eq_skeleton]; unfold k0_part8_skel atArgs
  simp only [Prog.lift, Prog.bind_op, Prog.bind_ret, Prog.pure_eq_ret]
  iintro HI Hk
  iapply (load_k c X WQ KK VV WO 1 0) $$ HI
  iintro HI
  iapply (load_v c X WQ KK VV WO 1 0) $$ HI
  iintro HI
  iapply (load_k c X WQ KK VV WO 1 1) $$ HI
  iintro HI
  iapply (load_v c X WQ KK VV WO 1 1) $$ HI
  iintro HI
  iapply (ret_step c)
  iapply Hk $$ HI

theorem part9_run {v64 : IVec S256x256 1} {v211 v241 v244 : FVec F S256x256 .f32} {v236 : FVec F S256x64 .f32}
    {Q : (Σ' (v251 : FVec F S256x64 .f32) (v271 : FVec F S256x64 .f32) (v276 : FVec F S256x64 .f32) (v277 : FVec F S256x256 .f32), FVec F S256x256 .f32) → sProp 𝕄} :
    inps c X WQ KK VV WO ⊢ iprop((inps c X WQ KK VV WO -∗ Q ⟨k0_pay18 v236 v241 v244, k0_pay19 v64 v211 (kAt KK 1 2) (kAt VV 1 2), k0_pay20 (kAt VV 1 3),
          k0_pay21 v211 (kAt KK 1 3), k0_pay22⟩)
      -∗ run c (atArgs (k0_part9 (F := F)) v64 v211 v236 v241 v244) Q) := by
  rw [k0_part9_eq_skeleton]; unfold k0_part9_skel atArgs
  simp only [Prog.lift, Prog.bind_op, Prog.bind_ret, Prog.pure_eq_ret]
  iintro HI Hk
  iapply (load_k c X WQ KK VV WO 1 2) $$ HI
  iintro HI
  iapply (load_v c X WQ KK VV WO 1 2) $$ HI
  iintro HI
  iapply (load_k c X WQ KK VV WO 1 3) $$ HI
  iintro HI
  iapply (load_v c X WQ KK VV WO 1 3) $$ HI
  iintro HI
  iapply (ret_step c)
  iapply Hk $$ HI

end

end Cert.Exchange
-- ==== Proof.Peers.lean ====
/-
Which device each step of the body addresses, under which condition, and which rows it moves, in the words of the protocol.
-/
module

public import proofs.«01_k».proof.Proof.Body1

@[expose] public section

noncomputable section

namespace Cert.Exchange

open Cert.KernelIdeal Cert.KernelIdeal.Gen

open Idealize.ShloMosaic
open Idealize.ShloMosaic.TcCoe

variable (c : Dev nD)

/-! ## Rows -/

/-- A slice of the partial product, or of the gathered result, at the rows of device `t`. -/
theorem part_at (t : Dev nD) {off : Fin 2 → ℕ} (h : off = ![64 * t.val, 0]) (p : ∀ a, off a + S64x512.size a ≤ S512x512.size a) (hs) :
    partW.slice (Rect.unit (s := S512x512) off S64x512.size p) hs = partM t := Memref.slice_unit_congr partW h p (rows_inb t) hs (fun _ => rfl)
theorem acc_at (t : Dev nD) {off : Fin 2 → ℕ} (h : off = ![64 * t.val, 0]) (p : ∀ a, off a + S64x512.size a ≤ S512x512.size a) (hs) :
    accW.slice (Rect.unit (s := S512x512) off S64x512.size p) hs = accM t := Memref.slice_unit_congr accW h p (rows_inb t) hs (fun _ => rfl)

/-! ## When the first exchange sends -/

theorem when1 : k0_cond1 c = 1#1 ↔ (pe c 1).val / 4 = 0 := by revert c; decide +kernel
theorem when2 : k0_cond2 c = 1#1 ↔ (pe c 2).val / 4 = 0 := by revert c; decide +kernel
theorem when3 : k0_cond3 c = 1#1 ↔ (pe c 3).val / 4 = 0 := by revert c; decide +kernel
theorem when4 : k0_cond4 c = 1#1 ↔ (pe c 4).val / 4 = 0 := by revert c; decide +kernel
theorem when5 : k0_cond5 c = 1#1 ↔ (pe c 5).val / 4 = 0 := by revert c; decide +kernel
theorem when6 : k0_cond6 c = 1#1 ↔ (pe c 6).val / 4 = 0 := by revert c; decide +kernel
theorem when7 : k0_cond7 c = 1#1 ↔ (pe c 7).val / 4 = 0 := by revert c; decide +kernel
theorem when8 : k0_cond8 c = 1#1 ↔ (pe c 1).val / 4 = 1 := by revert c; decide +kernel
theorem when9 : k0_cond9 c = 1#1 ↔ (pe c 2).val / 4 = 1 := by revert c; decide +kernel
theorem when10 : k0_cond10 c = 1#1 ↔ (pe c 3).val / 4 = 1 := by revert c; decide +kernel
theorem when11 : k0_cond11 c = 1#1 ↔ (pe c 4).val / 4 = 1 := by revert c; decide +kernel
theorem when12 : k0_cond12 c = 1#1 ↔ (pe c 5).val / 4 = 1 := by revert c; decide +kernel
theorem when13 : k0_cond13 c = 1#1 ↔ (pe c 6).val / 4 = 1 := by revert c; decide +kernel
theorem when14 : k0_cond14 c = 1#1 ↔ (pe c 7).val / 4 = 1 := by revert c; decide +kernel

/-! ## To whom -/

theorem to8 (h : k0_cond1 c = 1#1) : (⟨k0_dev8 c, k0_dev8_lt c h⟩ : Dev nD) = pe c 1 := Fin.ext (k0_dev8_eq c)
theorem to9 (h : k0_cond2 c = 1#1) : (⟨k0_dev9 c, k0_dev9_lt c h⟩ : Dev nD) = pe c 2 := Fin.ext (k0_dev9_eq c)
theorem to10 (h : k0_cond3 c = 1#1) : (⟨k0_dev10 c, k0_dev10_lt c h⟩ : Dev nD) = pe c 3 := Fin.ext (k0_dev10_eq c)
theorem to11 (h : k0_cond4 c = 1#1) : (⟨k0_dev11 c, k0_dev11_lt c h⟩ : Dev nD) = pe c 4 := Fin.ext (k0_dev11_eq c)
theorem to12 (h : k0_cond5 c = 1#1) : (⟨k0_dev12 c, k0_dev12_lt c h⟩ : Dev nD) = pe c 5 := Fin.ext (k0_dev12_eq c)
theorem to13 (h : k0_cond6 c = 1#1) : (⟨k0_dev13 c, k0_dev13_lt c h⟩ : Dev nD) = pe c 6 := Fin.ext (k0_dev13_eq c)
theorem to14 (h : k0_cond7 c = 1#1) : (⟨k0_dev14 c, k0_dev14_lt c h⟩ : Dev nD) = pe c 7 := Fin.ext (k0_dev14_eq c)
theorem to15 (h : k0_cond8 c = 1#1) : (⟨k0_dev15 c, k0_dev15_lt c h⟩ : Dev nD) = pe c 1 := Fin.ext (k0_dev15_eq c)
theorem to16 (h : k0_cond9 c = 1#1) : (⟨k0_dev16 c, k0_dev16_lt c h⟩ : Dev nD) = pe c 2 := Fin.ext (k0_dev16_eq c)
theorem to17 (h : k0_cond10 c = 1#1) : (⟨k0_dev17 c, k0_dev17_lt c h⟩ : Dev nD) = pe c 3 := Fin.ext (k0_dev17_eq c)
theorem to18 (h : k0_cond11 c = 1#1) : (⟨k0_dev18 c, k0_dev18_lt c h⟩ : Dev nD) = pe c 4 := Fin.ext (k0_dev18_eq c)
theorem to19 (h : k0_cond12 c = 1#1) : (⟨k0_dev19 c, k0_dev19_lt c h⟩ : Dev nD) = pe c 5 := Fin.ext (k0_dev19_eq c)
theorem to20 (h : k0_cond13 c = 1#1) : (⟨k0_dev20 c, k0_dev20_lt c h⟩ : Dev nD) = pe c 6 := Fin.ext (k0_dev20_eq c)
theorem to21 (h : k0_cond14 c = 1#1) : (⟨k0_dev21 c, k0_dev21_lt c h⟩ : Dev nD) = pe c 7 := Fin.ext (k0_dev21_eq c)
theorem to22 : (⟨k0_dev22 c, k0_dev22_lt c⟩ : Dev nD) = pe c 1 := Fin.ext (k0_dev22_eq c)
theorem to23 : (⟨k0_dev23 c, k0_dev23_lt c⟩ : Dev nD) = pe c 2 := Fin.ext (k0_dev23_eq c)
theorem to24 : (⟨k0_dev24 c, k0_dev24_lt c⟩ : Dev nD) = pe c 3 := Fin.ext (k0_dev24_eq c)
theorem to25 : (⟨k0_dev25 c, k0_dev25_lt c⟩ : Dev nD) = pe c 4 := Fin.ext (k0_dev25_eq c)
theorem to26 : (⟨k0_dev26 c, k0_dev26_lt c⟩ : Dev nD) = pe c 5 := Fin.ext (k0_dev26_eq c)
theorem to27 : (⟨k0_dev27 c, k0_dev27_lt c⟩ : Dev nD) = pe c 6 := Fin.ext (k0_dev27_eq c)
theorem to28 : (⟨k0_dev28 c, k0_dev28_lt c⟩ : Dev nD) = pe c 7 := Fin.ext (k0_dev28_eq c)

/-! ## Which rows the first exchange sends -/

theorem from1 (h : k0_cond1 c = 1#1) (hs) : partW.slice (Rect.unit (s := S512x512) (k0_off1 c) S64x512.size (k0_off1_inb c h)) hs = partM (pe c 1) := part_at _ (k0_off1_eq c) _ _
theorem from2 (h : k0_cond2 c = 1#1) (hs) : partW.slice (Rect.unit (s := S512x512) (k0_off2 c) S64x512.size (k0_off2_inb c h)) hs = partM (pe c 2) := part_at _ (k0_off2_eq c) _ _
theorem from3 (h : k0_cond3 c = 1#1) (hs) : partW.slice (Rect.unit (s := S512x512) (k0_off3 c) S64x512.size (k0_off3_inb c h)) hs = partM (pe c 3) := part_at _ (k0_off3_eq c) _ _
theorem from4 (h : k0_cond4 c = 1#1) (hs) : partW.slice (Rect.unit (s := S512x512) (k0_off4 c) S64x512.size (k0_off4_inb c h)) hs = partM (pe c 4) := part_at _ (k0_off4_eq c) _ _
theorem from5 (h : k0_cond5 c = 1#1) (hs) : partW.slice (Rect.unit (s := S512x512) (k0_off5 c) S64x512.size (k0_off5_inb c h)) hs = partM (pe c 5) := part_at _ (k0_off5_eq c) _ _
theorem from6 (h : k0_cond6 c = 1#1) (hs) : partW.slice (Rect.unit (s := S512x512) (k0_off6 c) S64x512.size (k0_off6_inb c h)) hs = partM (pe c 6) := part_at _ (k0_off6_eq c) _ _
theorem from7 (h : k0_cond7 c = 1#1) (hs) : partW.slice (Rect.unit (s := S512x512) (k0_off7 c) S64x512.size (k0_off7_inb c h)) hs = partM (pe c 7) := part_at _ (k0_off7_eq c) _ _
theorem from8 (h : k0_cond8 c = 1#1) (hs) : partW.slice (Rect.unit (s := S512x512) (k0_off8 c) S64x512.size (k0_off8_inb c h)) hs = partM (pe c 1) := part_at _ (k0_off8_eq c) _ _
theorem from9 (h : k0_cond9 c = 1#1) (hs) : partW.slice (Rect.unit (s := S512x512) (k0_off9 c) S64x512.size (k0_off9_inb c h)) hs = partM (pe c 2) := part_at _ (k0_off9_eq c) _ _
theorem from10 (h : k0_cond10 c = 1#1) (hs) : partW.slice (Rect.unit (s := S512x512) (k0_off10 c) S64x512.size (k0_off10_inb c h)) hs = partM (pe c 3) := part_at _ (k0_off10_eq c) _ _
theorem from11 (h : k0_cond11 c = 1#1) (hs) : partW.slice (Rect.unit (s := S512x512) (k0_off11 c) S64x512.size (k0_off11_inb c h)) hs = partM (pe c 4) := part_at _ (k0_off11_eq c) _ _
theorem from12 (h : k0_cond12 c = 1#1) (hs) : partW.slice (Rect.unit (s := S512x512) (k0_off12 c) S64x512.size (k0_off12_inb c h)) hs = partM (pe c 5) := part_at _ (k0_off12_eq c) _ _
theorem from13 (h : k0_cond13 c = 1#1) (hs) : partW.slice (Rect.unit (s := S512x512) (k0_off13 c) S64x512.size (k0_off13_inb c h)) hs = partM (pe c 6) := part_at _ (k0_off13_eq c) _ _
theorem from14 (h : k0_cond14 c = 1#1) (hs) : partW.slice (Rect.unit (s := S512x512) (k0_off14 c) S64x512.size (k0_off14_inb c h)) hs = partM (pe c 7) := part_at _ (k0_off14_eq c) _ _

/-- The rows the second exchange writes, and the device's own rows of the gathered result. -/
theorem mine_acc (hs) : accW.slice (Rect.unit (s := S512x512) (k0_off17 c) S64x512.size (k0_off17_inb c)) hs = accM c := acc_at _ (k0_off17_eq c) _ _

end Cert.Exchange
-- ==== Proof.Body2.lean ====
/-
The body of one device, second stretch: the sends of the first exchange, each batch's after its store.
-/
module

public import proofs.«01_k».proof.Proof.Peers

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Vec F S512x512 .bf16) (K : GSem nD τ sig → ℕ) (c : Dev nD)
variable (X : Vec F S2x256x512 .f32) (WQ : Vec F S512x256 .f32) (KK VV : Vec F S2x256x4x64 .f32) (WO : Vec F S256x512 .f32)

/-- While the sends of batch `b` have passed slot `k`. -/
def sending (b k : ℕ) : sProp 𝕄 := iprop(Owes c (owe c ∅ (unsentSlots c b k) oth) ∗ st1 c b k ∗ rows P c b k)

/-- One send of the first exchange: made when the destination's rows are in the batch at hand. -/
theorem send1 {b k : ℕ} (j : Fin 8) (hj : j.val = k + 1) (cond : Prop) [Decidable cond] (hcond : cond ↔ (pe c j).val / 4 = b)
    {n : cond → Dev nD} (hn : ∀ h, n h = pe c j) {src : cond → Memref sig .tc .vmem S64x512 .bf16} (hs : ∀ h, src h = partM (pe c j))
    {dst : Memref sig .tc .vmem S64x512 .bf16} (hd : dst = slotM j) {sS sR : DmaSem sig} (hsS : sS = own 0 j) (hsR : sR = own 1 j)
    {hsc : ∀ h, (dst : Memref sig (Dev.tc (n h) : Thread nD τ).2.kind .vmem S64x512 .bf16).view.ref.isScScratch = false}
    {hsrc : ∀ h, (src h).view.WordExact} {hdst : dst.view.WordExact}
    {hsem : ∀ h, DmaTarget.Typed .vmem (.dma sR) (.remote (Dev.tc (n h) : Thread nD τ) dst (.dma sS) (hsc h))}
    {α : Type} {Q : α → sProp 𝕄} {kk : PUnit → Prog (TpuEff nD τ sig (Elt F) Λ₀ .tc) α} :
    ctx (F := F) P K c ⊢ iprop(sending P c b k -∗ (sending P c b (k + 1) -∗ run c (kk ⟨⟩) Q)
      -∗ run c (dite cond (fun h => .op (.enqueueDma (src h) (.remote (Dev.tc (n h) : Thread nD τ) dst (.dma sS) (hsc h)) (.dma sR) (hsrc h) hdst (hsem h)) kk)
          (fun _ => kk ⟨⟩)) Q) := by
  unfold sending
  iintro #Hc ⟨HO, HS, HR⟩ Hk
  iapply (send1_step P K c j hj cond hcond hn hs hd hsS hsR) $$ Hc HO HS HR
  iexact Hk

theorem part6_run {v2 v33 v36 v39 v158 : BitVec 32} {Q : (Σ' (v184 : BitVec 32), BitVec 32) → sProp 𝕄} :
    ctx (F := F) P K c ⊢ iprop(sending P c 0 0 -∗ (∀ r, sending P c 0 3 -∗ Q r)
      -∗ run c (atArgs (k0_part6 (F := F)) c v2 v33 v36 v39 v158) Q) := by
  rw [k0_part6_eq_skeleton]; unfold k0_part6_skel atArgs
  simp only [Prog.lift, Prog.bind_op, Prog.bind_ret, Prog.pure_eq_ret]
  iintro #Hc HS Hk
  iapply (send1 P K c 1 rfl (k0_cond1 c = 1#1) (when1 c) (to8 c) (fun h => from1 c h _) rfl rfl rfl) $$ Hc HS
  iintro HS
  iapply (send1 P K c 2 rfl (k0_cond2 c = 1#1) (when2 c) (to9 c) (fun h => from2 c h _) rfl rfl rfl) $$ Hc HS
  iintro HS
  iapply (send1 P K c 3 rfl (k0_cond3 c = 1#1) (when3 c) (to10 c) (fun h => from3 c h _) rfl rfl rfl) $$ Hc HS
  iintro HS
  iapply (ret_step c)
  iapply Hk $$ HS

theorem part7_run {v2 v42 v45 v48 v51 v184 z : BitVec 32}
    {Q : (Σ' (v208 : FVec F S256x512 .f32) (v210 : FVec F S512x256 .f32), FVec F S256x256 .f32) → sProp 𝕄} :
    ctx (F := F) P K c ⊢ iprop(sending P c 0 3 -∗ inps c X WQ KK VV WO
      -∗ ((sending P c 0 7 ∗ inps c X WQ KK VV WO) -∗ Q ⟨k0_pay11 (xAt X 1), k0_pay12 WQ, constant S256x256 .f32 0x00000000#32⟩)
      -∗ run c (atArgs (k0_part7 (F := F)) c v2 v42 v45 v48 v51 v184 z) Q) := by
  rw [k0_part7_eq_skeleton]; unfold k0_part7_skel atArgs
  simp only [Prog.lift, Prog.bind_op, Prog.bind_ret, Prog.pure_eq_ret]
  iintro #Hc HS HI Hk
  iapply (send1 P K c 4 rfl (k0_cond4 c = 1#1) (when4 c) (to11 c) (fun h => from4 c h _) rfl rfl rfl) $$ Hc HS
  iintro HS
  iapply (send1 P K c 5 rfl (k0_cond5 c = 1#1) (when5 c) (to12 c) (fun h => from5 c h _) rfl rfl rfl) $$ Hc HS
  iintro HS
  iapply (send1 P K c 6 rfl (k0_cond6 c = 1#1) (when6 c) (to13 c) (fun h => from6 c h _) rfl rfl rfl) $$ Hc HS
  iintro HS
  iapply (send1 P K c 7 rfl (k0_cond7 c = 1#1) (when7 c) (to14 c) (fun h => from7 c h _) rfl rfl rfl) $$ Hc HS
  iintro HS
  iapply (load_x c X WQ KK VV WO 1) $$ HI
  iintro HI
  iapply (load_wq c X WQ KK VV WO) $$ HI
  iintro HI
  iapply (ret_step c)
  iapply Hk
  isplitl [HS]; · iexact HS
  iexact HI

theorem sending_half : sending P c 0 7 ⊢ (iprop(rows P c 1 0 -∗ sending P c 1 0) : sProp 𝕄) := by
  unfold sending
  rw [unsent_half, st1_half, rows_end]
  iintro ⟨HO, HS, -⟩ HR
  isplitl [HO]; · iexact HO
  isplitl [HS]; · iexact HS
  iexact HR

theorem part10_run (f : Vec F S512x512 .bf16) {v2 v33 : BitVec 32} {v64 : IVec S256x256 1} {v231 v251 v271 v276 : FVec F S256x64 .f32} {v277 v278 : FVec F S256x256 .f32}
    (hw : ∀ y : S256x512.Idx, P c ((halfRect 1).emb y) = k0_pay23 v64 v231 v251 v271 v276 v277 v278 WO y)
    {Q : BitVec 32 → sProp 𝕄} :
    ctx (F := F) P K c ⊢ iprop(sending P c 0 7 -∗ inps c X WQ KK VV WO -∗ halfAt c 1 f
      -∗ (∀ r, (sending P c 1 1 ∗ inps c X WQ KK VV WO ∗ ownRow P c 1) -∗ Q r)
      -∗ run c (atArgs (k0_part10 (F := F)) c v2 v33 v64 v231 v251 v271 v276 v277 v278) Q) := by
  rw [k0_part10_eq_skeleton]; unfold k0_part10_skel atArgs
  simp only [Prog.lift, Prog.bind_op, Prog.bind_ret, Prog.pure_eq_ret]
  iintro #Hc HS HI HP Hk
  iapply (load_wo c X WQ KK VV WO) $$ HI
  iintro HI
  iapply (load_half c 1 f) $$ HP
  iintro %w HP
  iapply (store_half P c 1 f _ hw) $$ HP
  rw [show halfAt c 1 (P c) = iprop(ownRow P c 1 ∗ rows P c 1 0) from half_rows P c 1]
  iintro ⟨HW, HR⟩
  ihave HS := (sending_half P c) $$ HS HR
  iapply (send1 P K c 1 rfl (k0_cond8 c = 1#1) (when8 c) (to15 c) (fun h => from8 c h _) rfl rfl rfl) $$ Hc HS
  iintro HS
  iapply (ret_step c)
  iapply Hk
  isplitl [HS]; · iexact HS
  isplitl [HI]; · iexact HI
  iexact HW

theorem part11_run {v2 v36 v39 v42 v45 v312 : BitVec 32} {Q : BitVec 1 → sProp 𝕄} :
    ctx (F := F) P K c ⊢ iprop(sending P c 1 1 -∗ (∀ r, sending P c 1 5 -∗ Q r)
      -∗ run c (atArgs (k0_part11 (F := F)) c v2 v36 v39 v42 v45 v312) Q) := by
  rw [k0_part11_eq_skeleton]; unfold k0_part11_skel atArgs
  simp only [Prog.lift, Prog.bind_op, Prog.bind_ret, Prog.pure_eq_ret]
  iintro #Hc HS Hk
  iapply (send1 P K c 2 rfl (k0_cond9 c = 1#1) (when9 c) (to16 c) (fun h => from9 c h _) rfl rfl rfl) $$ Hc HS
  iintro HS
  iapply (send1 P K c 3 rfl (k0_cond10 c = 1#1) (when10 c) (to17 c) (fun h => from10 c h _) rfl rfl rfl) $$ Hc HS
  iintro HS
  iapply (send1 P K c 4 rfl (k0_cond11 c = 1#1) (when11 c) (to18 c) (fun h => from11 c h _) rfl rfl rfl) $$ Hc HS
  iintro HS
  iapply (send1 P K c 5 rfl (k0_cond12 c = 1#1) (when12 c) (to19 c) (fun h => from12 c h _) rfl rfl rfl) $$ Hc HS
  iintro HS
  iapply (ret_step c)
  iapply Hk $$ HS

/-! ## The first exchange received -/

/-- While the slots up to `k` have been received, nothing of the second exchange being sent. -/
def recving (k : ℕ) : sProp 𝕄 := iprop(Owes c (owe c ∅ ∅ oth) ∗ upto k (done P c 1) (pend c 1))

/-- What slot `j` then holds, as a load of it reads. -/
def slab (j : Fin 8) : Vec F S1x64x512 .bf16 := shapeCast S1x64x512 (piece P (og c j) c) shapeCasts_S1x64x512_S64x512.symm

theorem slab_eq (j : Fin 8) : (shapeCast S64x512 (slab P c j) shapeCasts_S1x64x512_S64x512 : FVec F S64x512 .bf16) = piece P (og c j) c :=
  shapeCast_shapeCast _ _ _

theorem upto_mem (B A : Fin 8 → sProp 𝕄) {k : ℕ} (j : Fin 8) (hj : j.val ≤ k) : upto k B A ⊢ iprop(B j ∗ (B j -∗ upto k B A)) := by
  unfold upto
  rw [bigSep_univ_at _ j, if_pos hj]
  iintro ⟨H, H'⟩
  isplitl [H]; · iexact H
  iintro H
  isplitl [H]; · iexact H
  iexact H'

theorem slot_acc (j : Fin 8) : ((Memref.whole cc0_scratch1).access (slotRect j)).set = (slotM j).view.set :=
  (View.set_slice_whole _ _).trans (set_slot j).symm

theorem load_slot (j : Fin 8) {hl : (Memref.whole (sig := sig) cc0_scratch1).view.LoadsAt (slotRect j).toLoadRect}
    {α : Type} {Q : α → sProp 𝕄} {kk : Vec F S1x64x512 .bf16 → Prog (TpuEff nD τ sig (Elt F) Λ₀ .tc) α} :
    slotPay P c j ⊢ iprop((slotPay P c j -∗ run c (kk (slab P c j)) Q) -∗ run c (.op (.load (Memref.whole cc0_scratch1) (slotRect j).toLoadRect hl) kk) Q) := by
  unfold slotPay owns
  iintro ⟨%f, %h, H⟩ Hk
  have hr : ((Memref.whole cc0_scratch1).access (slotRect j)).read (Elt F) f = slab P c j := by
    unfold slab; rw [← h]; exact (shapeCast_shapeCast _ _ _).symm
  iapply (load_step c (m := Memref.whole cc0_scratch1) (r := slotRect j) (f := f) (q := fullShare) (S := (slotM j).view.set) (slot_acc j).le _ hr) $$ H
  iintro H
  iapply Hk
  iexists f
  isplitr; · ipureintro; exact h
  iexact H

theorem none_owed {q : Prop} : ∀ i ∈ (∅ : Finset (Fin 8)), q := fun i h => absurd h (Finset.notMem_empty i)
theorem recv1_low (j : Fin 8) : semLv (.dma (own 1 j)) < 3 := by revert j; decide

theorem done_recv1 (j : Fin 8) (hj : j ≠ 0) : done P c 1 j = iprop(semVal (cell 1 c j) 0 ∗ slotPay P c j) := by
  unfold done; rw [if_neg hj]; rfl

/-- One receive of the first exchange, and the load of what came. -/
theorem recv1 {k : ℕ} (j : Fin 8) (hj : j.val = k + 1) {sm : DmaSem sig} (hsm : sm = own 1 j)
    {sp : Space} {s : Shape} {e : EltTy} {src : Memref sig .tc sp s e} {dst : Memref sig .tc .vmem S64x512 .bf16}
    {hsrc : src.view.WordExact} {hdst : dst.view.WordExact} (hd : dst = slotM j)
    {hl : (Memref.whole (sig := sig) cc0_scratch1).view.LoadsAt (slotRect j).toLoadRect}
    {α : Type} {Q : α → sProp 𝕄} {kk : Vec F S1x64x512 .bf16 → Prog (TpuEff nD τ sig (Elt F) Λ₀ .tc) α} :
    ctx (F := F) P K c ⊢ iprop(recving P c k -∗ (recving P c (k + 1) -∗ run c (kk (slab P c j)) Q)
      -∗ run c (.op (.waitDma2 sm src dst hsrc hdst) fun _ => .op (.load (Memref.whole cc0_scratch1) (slotRect j).toLoadRect hl) kk) Q) := by
  subst hd
  have hm := upto_mem (done P c 1) (pend c 1) j hj.le
  rw [done_recv1 P c j (ne_zero_of hj)] at hm
  unfold recving
  iintro #Hc ⟨HO, HS⟩ Hk
  iapply (wait_step P K c 1 j hj hsm ∅ ∅ oth none_owed none_owed (fun i _ => recv1_low j) (N_slot j)) $$ Hc HO HS
  iintro ⟨HO, HS⟩
  icases hm $$ HS with ⟨⟨Hz, HP⟩, Hback⟩
  iapply (load_slot P c j) $$ HP
  iintro HP
  iapply Hk
  isplitl [HO]; · iexact HO
  iapply Hback
  isplitl [Hz]; · iexact Hz
  iexact HP

theorem part_acc (t : Dev nD) : ((Memref.whole cc0_scratch0).access (rowRect t)).set = (partM t).view.set := rfl

/-- The load of the device's own rows of its partial product. -/
theorem load_own {off : Fin 2 → ℕ} (h : off = ![64 * c.val, 0]) (p : ∀ a, off a + S64x512.size a ≤ S512x512.size a)
    {hl : (Memref.whole (sig := sig) cc0_scratch0).view.LoadsAt (Rect.unit (s := S512x512) off S64x512.size p).toLoadRect}
    {α : Type} {Q : α → sProp 𝕄} {kk : Vec F S64x512 .bf16 → Prog (TpuEff nD τ sig (Elt F) Λ₀ .tc) α} :
    rowsAt P c c ⊢ iprop((rowsAt P c c -∗ run c (kk (piece P c c)) Q)
      -∗ run c (.op (.load (Memref.whole cc0_scratch0) (Rect.unit (s := S512x512) off S64x512.size p).toLoadRect hl) kk) Q) := by
  subst h
  unfold rowsAt
  iintro H Hk
  iapply (load_step c (m := Memref.whole cc0_scratch0) (r := rowRect c) (f := P c) (q := fullShare) (S := (partM c).view.set) (part_acc c).le (piece P c c) rfl) $$ H
  iexact Hk

theorem part12_run {v2 v33 v36 v48 v51 : BitVec 32} {v339 : BitVec 1} {Q : FVec F S64x512 .f32 → sProp 𝕄} :
    ctx (F := F) P K c ⊢ iprop(sending P c 1 5 -∗ rowsAt P c c -∗ upto 0 (done P c 1) (pend c 1)
      -∗ ((st1 c 1 7 ∗ rowsAt P c c ∗ recving P c 1) -∗ Q (k0_pay24 (piece P c c) (slab P c 1)))
      -∗ run c (atArgs (k0_part12 (F := F)) c v2 v33 v36 v48 v51 v339) Q) := by
  rw [k0_part12_eq_skeleton]; unfold k0_part12_skel atArgs
  simp only [Prog.lift, Prog.bind_op, Prog.bind_ret, Prog.pure_eq_ret]
  iintro #Hc HS HW HD Hk
  iapply (send1 P K c 6 rfl (k0_cond13 c = 1#1) (when13 c) (to20 c) (fun h => from13 c h _) rfl rfl rfl) $$ Hc HS
  iintro HS
  iapply (send1 P K c 7 rfl (k0_cond14 c = 1#1) (when14 c) (to21 c) (fun h => from14 c h _) rfl rfl rfl) $$ Hc HS
  iintro HS
  iapply (load_own P c (k0_off15_eq c) (k0_off15_inb c)) $$ HW
  iintro HW
  unfold sending
  icases HS with ⟨HO, HS, -⟩
  rw [show unsentSlots c 1 (6 + 1) = ∅ from unsent_end c]
  ihave HR : recving P c 0 $$ [HO HD]
  · unfold recving
    isplitl [HO]; · iexact HO
    iexact HD
  iapply (recv1 P K c 1 rfl rfl rfl) $$ Hc HR
  iintro HR
  iapply (ret_step c)
  iapply Hk
  isplitl [HS]; · iexact HS
  isplitl [HW]; · iexact HW
  iexact HR

theorem part13_run {v39 v42 : BitVec 32} {v363 : FVec F S64x512 .f32} {Q : (Σ' (v385 : FVec F S64x512 .f32), FVec F S64x512 .f32) → sProp 𝕄} :
    ctx (F := F) P K c ⊢ iprop(recving P c 1 -∗ (recving P c 4 -∗ Q ⟨k0_pay25 v363 (slab P c 2) (slab P c 3), k0_pay26 (slab P c 4)⟩)
      -∗ run c (atArgs (k0_part13 (F := F)) c v39 v42 v363) Q) := by
  rw [k0_part13_eq_skeleton]; unfold k0_part13_skel atArgs
  simp only [Prog.lift, Prog.bind_op, Prog.bind_ret, Prog.pure_eq_ret]
  iintro #Hc HR Hk
  iapply (recv1 P K c 2 rfl rfl rfl) $$ Hc HR
  iintro HR
  iapply (recv1 P K c 3 rfl rfl rfl) $$ Hc HR
  iintro HR
  iapply (recv1 P K c 4 rfl rfl rfl) $$ Hc HR
  iintro HR
  iapply (ret_step c)
  iapply Hk $$ HR

theorem part14_run {v45 v48 v51 : BitVec 32} {v385 v395 : FVec F S64x512 .f32} {Q : FVec F S64x512 .f32 → sProp 𝕄} :
    ctx (F := F) P K c ⊢ iprop(recving P c 4 -∗ (recving P c 6 -∗ Q (k0_pay27 v385 v395 (slab P c 5) (slab P c 6)))
      -∗ run c (atArgs (k0_part14 (F := F)) c v45 v48 v51 v385 v395) Q) := by
  rw [k0_part14_eq_skeleton]; unfold k0_part14_skel atArgs
  simp only [Prog.lift, Prog.bind_op, Prog.bind_ret, Prog.pure_eq_ret]
  iintro #Hc HR Hk
  iapply (recv1 P K c 5 rfl rfl rfl) $$ Hc HR
  iintro HR
  iapply (recv1 P K c 6 rfl rfl rfl) $$ Hc HR
  iintro HR
  iapply (ret_step c)
  iapply Hk $$ HR

end Cert.Exchange
-- ==== Proof.Body3.lean ====
/-
The body of one device, third stretch: the summed rows sent on, the gathered rows received, the result stored, the sends completed.
-/
module

public import proofs.«01_k».proof.Proof.Body2

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Vec F S512x512 .bf16) (K : GSem nD τ sig → ℕ) (c : Dev nD)
variable (X : Vec F S2x256x512 .f32) (WQ : Vec F S512x256 .f32) (KK VV : Vec F S2x256x4x64 .f32) (WO : Vec F S256x512 .f32)

/-! ## The summed rows -/

/-- While the sends of the second exchange have passed slot `k`. -/
def sending2 (k : ℕ) : sProp 𝕄 := iprop(Owes c (owe c ∅ ∅ (hi k)) ∗ upto k (credOf c 2) (unsent2 P c))

theorem send2 {k : ℕ} (j : Fin 8) (hj : j.val = k + 1)
    {n : Dev nD} (hn : n = pe c j)
    {dst : Memref sig .tc .vmem S64x512 .bf16} (hd : dst = accM c) {sS sR : DmaSem sig} (hsS : sS = own 2 j) (hsR : sR = own 3 j)
    {hsc : (dst : Memref sig (Dev.tc n : Thread nD τ).2.kind .vmem S64x512 .bf16).view.ref.isScScratch = false}
    {hsrc : (chunkW : Memref sig .tc .vmem S64x512 .bf16).view.WordExact} {hdst : dst.view.WordExact}
    {hsem : DmaTarget.Typed .vmem (.dma sR) (.remote (Dev.tc n : Thread nD τ) dst (.dma sS) hsc)}
    {α : Type} {Q : α → sProp 𝕄} {kk : PUnit → Prog (TpuEff nD τ sig (Elt F) Λ₀ .tc) α} :
    ctx (F := F) P K c ⊢ iprop(sending2 P c k -∗ (sending2 P c (k + 1) -∗ run c (kk ⟨⟩) Q)
      -∗ run c (.op (.enqueueDma chunkW (.remote (Dev.tc n : Thread nD τ) dst (.dma sS) hsc) (.dma sR) hsrc hdst hsem) kk) Q) := by
  unfold sending2
  iintro #Hc ⟨HO, HS⟩ Hk
  iapply (send2_step P K c j hj hn hd hsS hsR) $$ Hc HO HS
  iexact Hk

/-- What the copy of slot `j` takes besides the summed rows. -/
def pre2 (j : Fin 8) : sProp 𝕄 :=
  iprop(dutyTok ER (cell 2 c j) 0 0 ∗ dutyTok ER (cell 3 (pe c j) j) 0 0 ∗ anyAt (pe c j) (accM c) ∗ reached ER (cell 3 (pe c j) j) 0)

/-- Once the sum is stored, the sends of the second exchange can begin; one share of the summed rows stays behind. -/
theorem sending2_start : Owes c (owe c ∅ ∅ oth) ⊢ iprop(bigSep oth (fun j => pre2 (F := F) c j)
    -∗ (chunkW.view.loc (c : Thread nD τ) ↦{fullShare} (chunk P c)) -∗ (sending2 P c 0 ∗ chunkAt P c 0)) := by
  have hjoin : iprop(bigSep oth (fun j => pre2 (F := F) c j) ∗ bigSep oth (fun j => chunkAt P c j)) ⊢ bigSep oth (fun j => unsent2 P c j) := by
    rw [← bigSep_sep']
    refine bigSep_mono fun j _ => ?_
    unfold pre2 unsent2
    have h : (iprop((dutyTok ER (cell 2 c j) 0 0 ∗ dutyTok ER (cell 3 (pe c j) j) 0 0 ∗ anyAt (pe c j) (accM c) ∗ reached ER (cell 3 (pe c j) j) 0) ∗ chunkAt P c j) : sProp 𝕄)
        ⊢ iprop(dutyTok ER (cell 2 c j) 0 0 ∗ dutyTok ER (cell 3 (pe c j) j) 0 0 ∗ anyAt (pe c j) (accM c) ∗ reached ER (cell 3 (pe c j) j) 0 ∗ chunkAt P c j) := by
      iintro ⟨⟨H1, H2, H3, H4⟩, H5⟩
      isplitl [H1]; · iexact H1
      isplitl [H2]; · iexact H2
      isplitl [H3]; · iexact H3
      isplitl [H4]; · iexact H4
      iexact H5
    exact h
  unfold sending2
  rw [chunk_leaves, bigSep_univ_at (fun j : Fin 8 => chunkAt P c j) 0, hi_zero, upto_start]
  iintro HO HT ⟨H0, HL⟩
  isplitr [H0]
  · isplitl [HO]; · iexact HO
    isplitr
    · unfold credOf; rw [if_pos rfl]; iempintro
    · iapply hjoin
      isplitl [HT]; · iexact HT
      iexact HL
  · iexact H0

theorem sending2_end : sending2 P c 7 ⊢ (iprop(Owes c (owe c ∅ ∅ ∅) ∗ bigSep Finset.univ (credOf c 2)) : sProp 𝕄) := by
  unfold sending2
  rw [hi_seven, upto_end]

theorem zero2 : (![0, 0] : Fin 2 → ℕ) = fun _ => 0 := funext fun a => by fin_cases a <;> rfl

theorem store_chunk (f w : Vec F S64x512 .bf16) (hw : w = chunk P c)
    {hx : ((Memref.whole cc0_scratch2).access (Rect.unit (s := S64x512) ![0, 0] S64x512.size inb_S64x512_S64x512_0_0)).Stores Finset.univ}
    {hm : Finset.univ = Finset.univ ∨ ∀ a, (Rect.unit (s := S64x512) ![0, 0] S64x512.size inb_S64x512_S64x512_0_0).stride a = 1}
    {α : Type} {Q : α → sProp 𝕄} {kk : PUnit → Prog (TpuEff nD τ sig (Elt F) Λ₀ .tc) α} :
    (chunkW.view.loc (c : Thread nD τ) ↦{fullShare} f : sProp 𝕄) ⊢ iprop(((chunkW.view.loc (c : Thread nD τ) ↦{fullShare} (chunk P c)) -∗ run c (kk ⟨⟩) Q)
      -∗ run c (.op (.store (Memref.whole cc0_scratch2) (Rect.unit (s := S64x512) ![0, 0] S64x512.size inb_S64x512_S64x512_0_0) w Finset.univ hx hm) kk) Q) := by
  subst hw
  iintro H Hk
  iapply (store_step c (m := Memref.whole cc0_scratch2) (r := Rect.unit (s := S64x512) ![0, 0] S64x512.size inb_S64x512_S64x512_0_0) (w := chunk P c)
    (hx := hx) (hm := hm) (S := Finset.univ) (f := f) (Finset.subset_univ _) (chunk P c)
    (fun i _ => congrFun (Memref.write_access_unit_zero_univ (Elt F) cc0_scratch2 zero2 _ f (chunk P c)) i)) $$ H
  iexact Hk

theorem part15_run (f : Vec F S64x512 .bf16) {v2 : BitVec 32} {v418 : FVec F S64x512 .f32} (hw : k0_pay28 v418 (slab P c 7) = chunk P c)
    {Q : (Σ' (v435 : BitVec 32) (v445 : BitVec 32) (v455 : BitVec 32), BitVec 32) → sProp 𝕄} :
    ctx (F := F) P K c ⊢ iprop(recving P c 6 -∗ (chunkW.view.loc (c : Thread nD τ) ↦{fullShare} f) -∗ bigSep oth (fun j => pre2 (F := F) c j)
      -∗ (∀ r, (sending2 P c 2 ∗ chunkAt P c 0 ∗ bigSep Finset.univ (done P c 1)) -∗ Q r)
      -∗ run c (atArgs (k0_part15 (F := F)) c v2 v418) Q) := by
  rw [k0_part15_eq_skeleton]; unfold k0_part15_skel atArgs
  simp only [Prog.lift, Prog.bind_op, Prog.bind_ret, Prog.pure_eq_ret]
  iintro #Hc HR HC HT Hk
  iapply (recv1 P K c 7 rfl rfl rfl) $$ Hc HR
  iintro HR
  iapply (load_step c (m := Memref.whole cc0_scratch2) (r := Rect.unit (s := S64x512) ![0, 0] S64x512.size inb_S64x512_S64x512_0_0) (f := f) (q := fullShare)
    (Finset.subset_univ _) _ rfl) $$ HC
  iintro HC
  iapply (store_chunk P c f _ hw) $$ HC
  iintro HC
  unfold recving
  icases HR with ⟨HO, HD⟩
  icases (sending2_start P c) $$ HO HT HC with ⟨HS, HL⟩
  iapply (send2 P K c 1 rfl (to22 c) (mine_acc c _) rfl rfl) $$ Hc HS
  iintro HS
  iapply (send2 P K c 2 rfl (to23 c) (mine_acc c _) rfl rfl) $$ Hc HS
  iintro HS
  iapply (ret_step c)
  iapply Hk
  isplitl [HS]; · iexact HS
  isplitl [HL]; · iexact HL
  rw [← upto_end (done P c 1) (pend c 1)]
  iexact HD

theorem part16_run {v2 v455 v64 : BitVec 32} {Q : (Σ' (v465 : BitVec 32) (v475 : BitVec 32), BitVec 32) → sProp 𝕄} :
    ctx (F := F) P K c ⊢ iprop(sending2 P c 2 -∗ (∀ r, sending2 P c 5 -∗ Q r) -∗ run c (atArgs (k0_part16 (F := F)) c v2 v455 v64) Q) := by
  rw [k0_part16_eq_skeleton]; unfold k0_part16_skel atArgs
  simp only [Prog.lift, Prog.bind_op, Prog.bind_ret, Prog.pure_eq_ret]
  iintro #Hc HS Hk
  iapply (send2 P K c 3 rfl (to24 c) (mine_acc c _) rfl rfl) $$ Hc HS
  iintro HS
  iapply (send2 P K c 4 rfl (to25 c) (mine_acc c _) rfl rfl) $$ Hc HS
  iintro HS
  iapply (send2 P K c 5 rfl (to26 c) (mine_acc c _) rfl rfl) $$ Hc HS
  iintro HS
  iapply (ret_step c)
  iapply Hk $$ HS

/-! ## The gathered rows -/

/-- Once everything is sent: the slots of array `κ` waited for up to `k`. -/
def waited (κ : Fin 4) (k : ℕ) : sProp 𝕄 := upto k (done P c κ) (pend c κ)

/-- What a copy of 64 rows credits does not depend on which rows. -/
theorem credit_part {off : Fin 2 → ℕ} (p : ∀ a, off a + S64x512.size a ≤ S512x512.size a) (hs) :
    (partW.slice (Rect.unit (s := S512x512) off S64x512.size p) hs).view.dmaCredit = N := rfl
theorem credit_acc {off : Fin 2 → ℕ} (p : ∀ a, off a + S64x512.size a ≤ S512x512.size a) (hs) :
    (accW.slice (Rect.unit (s := S512x512) off S64x512.size p) hs).view.dmaCredit = N := rfl

theorem wait_of (κ : Fin 4) {k : ℕ} (j : Fin 8) (hj : j.val = k + 1) {sm : DmaSem sig} (hsm : sm = own κ j)
    {sp sp' : Space} {s s' : Shape} {e e' : EltTy} {κ' : Kind} {src : Memref sig .tc sp' s' e'} {dst : Memref sig κ' sp s e}
    {hsrc : src.view.WordExact} {hdst : dst.view.WordExact} (hN : dst.view.dmaCredit = N)
    {α : Type} {Q : α → sProp 𝕄} {kk : PUnit → Prog (TpuEff nD τ sig (Elt F) Λ₀ .tc) α} :
    ctx (F := F) P K c ⊢ iprop(Owes c (owe c ∅ ∅ ∅) -∗ waited P c κ k
      -∗ ((Owes c (owe c ∅ ∅ ∅) ∗ waited P c κ (k + 1)) -∗ run c (kk ⟨⟩) Q)
      -∗ run c (.op (.waitDma2 sm src dst hsrc hdst) kk) Q) :=
  wait_step P K c κ j hj hsm ∅ ∅ ∅ none_owed none_owed none_owed hN

/-- The load of the summed rows through the share that stayed behind. -/
theorem load_chunk {hl : (Memref.whole (sig := sig) cc0_scratch2).view.LoadsAt (Rect.unit (s := S64x512) ![0, 0] S64x512.size inb_S64x512_S64x512_0_0).toLoadRect}
    {α : Type} {Q : α → sProp 𝕄} {kk : Vec F S64x512 .bf16 → Prog (TpuEff nD τ sig (Elt F) Λ₀ .tc) α} :
    chunkAt P c 0 ⊢ iprop((chunkAt P c 0 -∗ run c (kk (chunk P c)) Q)
      -∗ run c (.op (.load (Memref.whole cc0_scratch2) (Rect.unit (s := S64x512) ![0, 0] S64x512.size inb_S64x512_S64x512_0_0).toLoadRect hl) kk) Q) := by
  unfold chunkAt
  rw [set_chunk]
  iintro H Hk
  iapply (load_step c (m := Memref.whole cc0_scratch2) (r := Rect.unit (s := S64x512) ![0, 0] S64x512.size inb_S64x512_S64x512_0_0) (f := chunk P c)
    (q := ShareLeaves.leaf 3 fullShare 0) (S := Finset.univ) (Finset.subset_univ _) (chunk P c)
    (Memref.readAt_unit_zero (Elt F) cc0_scratch2 zero2 _ (chunk P c))) $$ H
  iexact Hk

/-- The device's own rows of the gathered result: a load of them, not used, then their store. -/
theorem keep_own {off : Fin 2 → ℕ} (h : off = ![64 * c.val, 0]) (p : ∀ a, off a + S64x512.size a ≤ S512x512.size a) (w : Vec F S64x512 .bf16) (hw : w = chunk P c)
    {hl : (Memref.whole (sig := sig) cc0_scratch3).view.LoadsAt (Rect.unit (s := S512x512) off S64x512.size p).toLoadRect}
    {hx : ((Memref.whole cc0_scratch3).access (Rect.unit (s := S512x512) off S64x512.size p)).Stores Finset.univ}
    {hm : Finset.univ = Finset.univ ∨ ∀ a, (Rect.unit (s := S512x512) off S64x512.size p).stride a = 1}
    {α : Type} {Q : α → sProp 𝕄} {kk : PUnit → Prog (TpuEff nD τ sig (Elt F) Λ₀ .tc) α} :
    anyAt c (accM c) ⊢ iprop((accPay P c 0 -∗ run c (kk ⟨⟩) Q)
      -∗ run c (.op (.load (Memref.whole cc0_scratch3) (Rect.unit (s := S512x512) off S64x512.size p).toLoadRect hl) fun _ =>
        .op (.store (Memref.whole cc0_scratch3) (Rect.unit (s := S512x512) off S64x512.size p) w Finset.univ hx hm) kk) Q) := by
  subst h hw
  unfold anyAt accPay owns
  rw [og_zero]
  iintro ⟨%f, H⟩ Hk
  iapply (load_step c (m := Memref.whole cc0_scratch3) (r := rowRect c) (f := f) (q := fullShare) (S := (accM c).view.set) (Finset.Subset.refl _) _ rfl) $$ H
  iintro H
  iapply (store_step c (m := Memref.whole cc0_scratch3) (r := rowRect c) (w := chunk P c) (hx := hx) (hm := hm) (f := f) (S := (accM c).view.set) (Finset.Subset.refl _)
    (((Memref.whole cc0_scratch3).access (rowRect c)).write (Elt F) f (chunk P c) Finset.univ) (fun _ _ => rfl)) $$ H
  iintro H
  iapply Hk
  iexists (((Memref.whole cc0_scratch3).access (rowRect c)).write (Elt F) f (chunk P c) Finset.univ)
  isplitr
  · ipureintro; exact View.read_write_univ (v := (accM c).view) (Val := Elt F) f (chunk P c)
  iexact H

theorem pay29_eq (v : Vec F S64x512 .bf16) : k0_pay29 v = v := shapeCast_self _ _

theorem part17_run {v2 v435 v445 v485 : BitVec 32} {Q : BitVec 32 → sProp 𝕄} :
    ctx (F := F) P K c ⊢ iprop(sending2 P c 5 -∗ chunkAt P c 0 -∗ anyAt c (accM c) -∗ waited P c 3 0
      -∗ (∀ r, (Owes c (owe c ∅ ∅ ∅) ∗ bigSep Finset.univ (credOf c 2) ∗ chunkAt P c 0 ∗ accPay P c 0 ∗ waited P c 3 1) -∗ Q r)
      -∗ run c (atArgs (k0_part17 (F := F)) c v2 v435 v445 v485) Q) := by
  rw [k0_part17_eq_skeleton]; unfold k0_part17_skel atArgs
  simp only [Prog.lift, Prog.bind_op, Prog.bind_ret, Prog.pure_eq_ret]
  iintro #Hc HS HL HA HW Hk
  iapply (send2 P K c 6 rfl (to27 c) (mine_acc c _) rfl rfl) $$ Hc HS
  iintro HS
  iapply (send2 P K c 7 rfl (to28 c) (mine_acc c _) rfl rfl) $$ Hc HS
  iintro HS
  iapply (load_chunk P c) $$ HL
  iintro HL
  iapply (keep_own P c (k0_off15_eq c) (k0_off15_inb c) _ (pay29_eq _)) $$ HA
  iintro HA
  icases (sending2_end P c) $$ HS with ⟨HO, HS⟩
  iapply (wait_of P K c 3 1 rfl rfl (credit_acc _ _)) $$ Hc HO HW
  iintro ⟨HO, HW⟩
  iapply (ret_step c)
  iapply Hk
  isplitl [HO]; · iexact HO
  isplitl [HS]; · iexact HS
  isplitl [HL]; · iexact HL
  isplitl [HA]; · iexact HA
  iexact HW

theorem part18_run {v455 v465 v475 v485 v495 : BitVec 32} {Q : PUnit → sProp 𝕄} :
    ctx (F := F) P K c ⊢ iprop(Owes c (owe c ∅ ∅ ∅) -∗ waited P c 3 1 -∗ ((Owes c (owe c ∅ ∅ ∅) ∗ waited P c 3 7) -∗ Q ⟨⟩)
      -∗ run c (atArgs (k0_part18 (F := F)) c v455 v465 v475 v485 v495) Q) := by
  rw [k0_part18_eq_skeleton]; unfold k0_part18_skel atArgs
  simp only [Prog.lift, Prog.bind_op, Prog.bind_ret, Prog.pure_eq_ret]
  iintro #Hc HO HW Hk
  iapply (wait_of P K c 3 2 rfl rfl (credit_acc _ _)) $$ Hc HO HW
  iintro ⟨HO, HW⟩
  iapply (wait_of P K c 3 3 rfl rfl (credit_acc _ _)) $$ Hc HO HW
  iintro ⟨HO, HW⟩
  iapply (wait_of P K c 3 4 rfl rfl (credit_acc _ _)) $$ Hc HO HW
  iintro ⟨HO, HW⟩
  iapply (wait_of P K c 3 5 rfl rfl (credit_acc _ _)) $$ Hc HO HW
  iintro ⟨HO, HW⟩
  iapply (wait_of P K c 3 6 rfl rfl (credit_acc _ _)) $$ Hc HO HW
  iintro ⟨HO, HW⟩
  iapply (wait_of P K c 3 7 rfl rfl (credit_acc _ _)) $$ Hc HO HW
  iintro ⟨HO, HW⟩
  iapply (ret_step c)
  iapply Hk
  isplitl [HO]; · iexact HO
  iexact HW

/-! ## The result -/

theorem set_out (b : Fin 2) : ((Memref.whole cc0_stg5_0).access (xRect b)).set = (xRect b).set := View.set_slice_whole _ _

/-- One batch of the result: the gathered rows loaded, what was there before loaded and not used, the widened rows stored. -/
theorem out_batch (b : Fin 2) (f g : Vec F S2x256x512 .f32) (hin : ∀ i, (i 0).val = b.val → g i = outOf P i) (hout : ∀ i, (i 0).val ≠ b.val → g i = f i)
    {pay : Vec F S256x512 .bf16 → FVec F S1x256x512 .f32} (hpay : ∀ v, pay v = k0_pay30 v)
    {hl : (Memref.whole (sig := sig) cc0_scratch3).view.LoadsAt (halfRect b).toLoadRect}
    {hl' : (Memref.whole (sig := sig) cc0_stg5_0).view.LoadsAt (xRect b).toLoadRect}
    {hx : ((Memref.whole cc0_stg5_0).access (xRect b)).Stores Finset.univ} {hm : Finset.univ = Finset.univ ∨ ∀ a, (xRect b).stride a = 1}
    {α : Type} {Q : α → sProp 𝕄} {kk : PUnit → Prog (TpuEff nD τ sig (Elt F) Λ₀ .tc) α} :
    (accW.view.loc (c : Thread nD τ) ↦{fullShare} (gathered P) : sProp 𝕄) ⊢ iprop(((Memref.whole cc0_stg5_0).view.loc (c : Thread nD τ) ↦{fullShare} f)
      -∗ (((accW.view.loc (c : Thread nD τ) ↦{fullShare} (gathered P)) ∗ ((Memref.whole cc0_stg5_0).view.loc (c : Thread nD τ) ↦{fullShare} g)) -∗ run c (kk ⟨⟩) Q)
      -∗ run c (.op (.load (Memref.whole cc0_scratch3) (halfRect b).toLoadRect hl) fun v => .op (.load (Memref.whole cc0_stg5_0) (xRect b).toLoadRect hl') fun _ =>
        .op (.store (Memref.whole cc0_stg5_0) (xRect b) (pay v) Finset.univ hx hm) kk) Q) := by
  have hg : ∀ i ∈ (Finset.univ : Finset S2x256x512.Idx), ((Memref.whole cc0_stg5_0).access (xRect b)).write (Elt F) f
      (pay (fun y : S256x512.Idx => gathered P ((halfRect b).emb y))) Finset.univ i = g i := by
    intro i _
    by_cases hi : (i 0).val = b.val
    · rw [hin i hi]
      exact write_at ((Memref.whole cc0_stg5_0).access (xRect b)) f (outOf P) _ ((out_read P b).trans (hpay _).symm) i
        ((set_out b).symm ▸ (mem_xRect b i).mpr hi)
    · rw [hout i hi]
      exact View.write_of_not_mem _ _ _ (by rw [View.setOn_univ, set_out, mem_xRect]; exact hi)
  iintro HA HF Hk
  iapply (load_step c (m := Memref.whole cc0_scratch3) (r := halfRect b) (f := gathered P) (q := fullShare) (S := Finset.univ) (Finset.subset_univ _)
    (fun y : S256x512.Idx => gathered P ((halfRect b).emb y)) rfl) $$ HA
  iintro HA
  iapply (load_step c (m := Memref.whole cc0_stg5_0) (r := xRect b) (f := f) (q := fullShare) (S := Finset.univ) (Finset.subset_univ _) _ rfl) $$ HF
  iintro HF
  iapply (store_step c (m := Memref.whole cc0_stg5_0) (r := xRect b) (w := pay (fun y : S256x512.Idx => gathered P ((halfRect b).emb y))) (hx := hx) (hm := hm)
    (f := f) (S := Finset.univ) (Finset.subset_univ _) g hg) $$ HF
  iintro HF
  iapply Hk
  isplitl [HA]; · iexact HA
  iexact HF

/-- The result with its first batch stored. -/
def firstOut (f : Vec F S2x256x512 .f32) : Vec F S2x256x512 .f32 := fun i => if (i 0).val = 0 then outOf P i else f i

theorem part19_run (f : Vec F S2x256x512 .f32) {Q : PUnit → sProp 𝕄} :
    ctx (F := F) P K c ⊢ iprop(Owes c (owe c ∅ ∅ ∅) -∗ (accW.view.loc (c : Thread nD τ) ↦{fullShare} (gathered P))
      -∗ ((Memref.whole cc0_stg5_0).view.loc (c : Thread nD τ) ↦{fullShare} f) -∗ waited P c 0 0 -∗ waited P c 2 0
      -∗ ((Owes c (owe c ∅ ∅ ∅) ∗ (accW.view.loc (c : Thread nD τ) ↦{fullShare} (gathered P))
        ∗ ((Memref.whole cc0_stg5_0).view.loc (c : Thread nD τ) ↦{fullShare} (outOf P)) ∗ waited P c 0 2 ∗ waited P c 2 1) -∗ Q ⟨⟩)
      -∗ run c (atArgs (k0_part19 (F := F)) c) Q) := by
  rw [k0_part19_eq_skeleton]; unfold k0_part19_skel atArgs
  simp only [Prog.lift, Prog.bind_op, Prog.bind_ret, Prog.pure_eq_ret]
  iintro #Hc HO HA HF H1 H2 Hk
  iapply (out_batch P c 0 f (firstOut P f) (fun i hi => if_pos hi) (fun i hi => if_neg hi) (fun _ => rfl)) $$ HA HF
  iintro ⟨HA, HF⟩
  iapply (out_batch P c 1 (firstOut P f) (outOf P) (fun i hi => rfl) (fun i hi => by
    have h : (i 0).val < 2 := (i 0).isLt
    have h' : (i 0).val ≠ 1 := hi
    unfold firstOut; rw [if_pos (by omega)]) (fun _ => pay31_eq _)) $$ HA HF
  iintro ⟨HA, HF⟩
  iapply (wait_of P K c 0 1 rfl rfl (credit_part _ _)) $$ Hc HO H1
  iintro ⟨HO, H1⟩
  iapply (wait_of P K c 2 1 rfl rfl rfl) $$ Hc HO H2
  iintro ⟨HO, H2⟩
  iapply (wait_of P K c 0 2 rfl rfl (credit_part _ _)) $$ Hc HO H1
  iintro ⟨HO, H1⟩
  iapply (ret_step c)
  iapply Hk
  isplitl [HO]; · iexact HO
  isplitl [HA]; · iexact HA
  isplitl [HF]; · iexact HF
  isplitl [H1]; · iexact H1
  iexact H2

theorem part20_run {Q : PUnit → sProp 𝕄} :
    ctx (F := F) P K c ⊢ iprop(Owes c (owe c ∅ ∅ ∅) -∗ waited P c 0 2 -∗ waited P c 2 1
      -∗ ((Owes c (owe c ∅ ∅ ∅) ∗ waited P c 0 5 ∗ waited P c 2 4) -∗ Q ⟨⟩)
      -∗ run c (atArgs (k0_part20 (F := F)) c) Q) := by
  rw [k0_part20_eq_skeleton]; unfold k0_part20_skel atArgs
  simp only [Prog.lift, Prog.bind_op, Prog.bind_ret, Prog.pure_eq_ret]
  iintro #Hc HO H1 H2 Hk
  iapply (wait_of P K c 2 2 rfl rfl rfl) $$ Hc HO H2
  iintro ⟨HO, H2⟩
  iapply (wait_of P K c 0 3 rfl rfl (credit_part _ _)) $$ Hc HO H1
  iintro ⟨HO, H1⟩
  iapply (wait_of P K c 2 3 rfl rfl rfl) $$ Hc HO H2
  iintro ⟨HO, H2⟩
  iapply (wait_of P K c 0 4 rfl rfl (credit_part _ _)) $$ Hc HO H1
  iintro ⟨HO, H1⟩
  iapply (wait_of P K c 2 4 rfl rfl rfl) $$ Hc HO H2
  iintro ⟨HO, H2⟩
  iapply (wait_of P K c 0 5 rfl rfl (credit_part _ _)) $$ Hc HO H1
  iintro ⟨HO, H1⟩
  iapply (ret_step c)
  iapply Hk
  isplitl [HO]; · iexact HO
  isplitl [H1]; · iexact H1
  iexact H2

end Cert.Exchange
-- ==== Proof.Body4.lean ====
module
public import proofs.«01_k».proof.Proof.Body3
@[expose] public section
/-! # The body as a whole

The twenty parts one after another on one device, from the tokens, credits and positions it is launched with to semaphores that all
read zero. -/
noncomputable section
namespace Cert.Exchange
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (P : Dev nD → Vec F S512x512 .bf16) (K : GSem nD τ sig → ℕ) (c : Dev nD)
variable (X : Vec F S2x256x512 .f32) (WQ : Vec F S512x256 .f32) (KK VV : Vec F S2x256x4x64 .f32) (WO : Vec F S256x512 .f32)

theorem four (Φ : Fin 4 → sProp 𝕄) : bigSep Finset.univ Φ = iprop(Φ 0 ∗ Φ 1 ∗ Φ 2 ∗ Φ 3) := by
  rw [bigSep_univ_at Φ 0, bigSep_erase (i := 1) (by decide), bigSep_erase (i := 2) (by decide),
    show ((Finset.univ.erase (0 : Fin 4)).erase 1).erase 2 = {3} by decide, bigSep_singleton]; rfl

/-- One statement after another. -/
theorem seq_step {α β : Type} {p : Prog (TpuEff nD τ sig (Elt F) Λ₀ .tc) α} {kk : α → Prog (TpuEff nD τ sig (Elt F) Λ₀ .tc) β} {Q : β → sProp 𝕄} :
    run c p (fun a => run c (kk a) Q) ⊢ run c (p >>= kk) Q := by
  unfold run; rw [wp_bind]

theorem of_eq {A B : sProp 𝕄} (h : A = B) : A ⊢ B := by rw [h]

/-! ## What a device starts with, and ends with -/

/-- The tokens a device spends at slot `j`: its signal's, and for each exchange its copy's own and the peer's. -/
def toks (j : Fin 8) : sProp 𝕄 :=
  iprop(dutyTok ER (bar (pe c j)) 0 (ng j) ∗ (dutyTok ER (cell 0 c j) 0 0 ∗ dutyTok ER (cell 1 (pe c j) j) 0 0)
    ∗ (dutyTok ER (cell 2 c j) 0 0 ∗ dutyTok ER (cell 3 (pe c j) j) 0 0))
/-- The copy semaphores of one array before any wait; slot zero is not used. -/
def idle (κ : Fin 4) : sProp 𝕄 := iprop(semVal (cell κ c 0) 0 ∗ bigSep oth fun j => atPos ER (cell κ c j) 0 ∅ 0)
def start : sProp 𝕄 :=
  iprop(bigSep oth (fun j => toks (F := F) c j) ∗ cred (tallyAt (bar c) () 7) ∗ atPos ER (bar c) 0 ∅ 0
    ∗ bigSep Finset.univ (fun κ => idle (F := F) c κ)
    ∗ bigSep Finset.univ (fun j => credOf (F := F) c 1 j) ∗ bigSep Finset.univ (fun j => credOf (F := F) c 3 j))
/-- The four buffers of the exchange, whatever they hold. -/
def places : sProp 𝕄 :=
  iprop((∃ f, partW.view.loc (c : Thread nD τ) ↦{fullShare} f) ∗ (∃ f, slotW.view.loc (c : Thread nD τ) ↦{fullShare} f)
    ∗ (∃ f, chunkW.view.loc (c : Thread nD τ) ↦{fullShare} f) ∗ (∃ f, accW.view.loc (c : Thread nD τ) ↦{fullShare} f))
/-- All semaphores of the exchange at zero. -/
def zeros : sProp 𝕄 :=
  iprop(semVal (bar c) 0 ∗ bigSep Finset.univ fun κ : Fin 4 => bigSep Finset.univ fun j : Fin 8 => semVal (cell κ c j) 0)

/-! ## Between the parts -/

theorem kick : iprop(bigSep oth (fun j => toks (F := F) c j) ∗ (∃ f, slotW.view.loc (c : Thread nD τ) ↦{fullShare} f)
      ∗ (∃ f, accW.view.loc (c : Thread nD τ) ↦{fullShare} f))
    ⊢ (iprop(upto 0 (fun _ => iprop(emp)) (sigRes c) ∗ anyAt c (slotM 0) ∗ anyAt c (accM c)
      ∗ bigSep oth (fun j => iprop(dutyTok ER (cell 0 c j) 0 0 ∗ dutyTok ER (cell 1 (pe c j) j) 0 0))
      ∗ bigSep oth (fun j => iprop(dutyTok ER (cell 2 c j) 0 0 ∗ dutyTok ER (cell 3 (pe c j) j) 0 0))) : sProp 𝕄) := by
  have hs (f) : (slotW.view.loc (c : Thread nD τ) ↦{fullShare} f : sProp 𝕄) ⊢ iprop(anyAt c (slotM 0) ∗ bigSep oth fun j => anyAt c (slotM (ng j))) := by
    refine (slot_split c f).trans ?_
    rw [bigSep_univ_equiv ngOn (fun j : Fin 8 => (anyAt c (slotM j) : sProp 𝕄)), bigSep_univ_at _ 0]
    exact .rfl
  have ha (f) : (accW.view.loc (c : Thread nD τ) ↦{fullShare} f : sProp 𝕄) ⊢ iprop(anyAt c (accM c) ∗ bigSep oth fun j => anyAt c (accM (pe c j))) := by
    refine (acc_split c f).trans ?_
    rw [bigSep_univ_at _ 0, pe_zero]
  have ht : bigSep oth (fun j => toks (F := F) c j) = (iprop(bigSep oth (fun j => dutyTok ER (bar (pe c j)) 0 (ng j))
      ∗ bigSep oth (fun j => iprop(dutyTok ER (cell 0 c j) 0 0 ∗ dutyTok ER (cell 1 (pe c j) j) 0 0))
      ∗ bigSep oth (fun j => iprop(dutyTok ER (cell 2 c j) 0 0 ∗ dutyTok ER (cell 3 (pe c j) j) 0 0))) : sProp 𝕄) := by
    unfold toks
    rw [bigSep_sep', bigSep_sep']
  have hsig : (iprop(bigSep oth (fun j => dutyTok ER (bar (pe c j)) 0 (ng j)) ∗ (bigSep oth fun j => anyAt c (slotM (ng j)))
      ∗ bigSep oth fun j => anyAt c (accM (pe c j))) : sProp 𝕄) = upto 0 (fun _ => iprop(emp)) (sigRes c) := by
    rw [upto_start, emp_left, ← bigSep_sep', ← bigSep_sep']; rfl
  rw [ht, ← hsig]
  iintro ⟨⟨H1, H2, H3⟩, ⟨%f, HS⟩, %g, HA⟩
  icases (hs f) $$ HS with ⟨HS0, HS⟩
  icases (ha g) $$ HA with ⟨HA0, HA⟩
  isplitl [H1 HS HA]
  · isplitl [H1]; · iexact H1
    isplitl [HS]; · iexact HS
    iexact HA
  isplitl [HS0]; · iexact HS0
  isplitl [HA0]; · iexact HA0
  isplitl [H2]; · iexact H2
  iexact H3

theorem after_barrier : iprop(bigSep oth (fun e => barPay (F := F) c e)
      ∗ bigSep oth (fun j => iprop(dutyTok ER (cell 0 c j) 0 0 ∗ dutyTok ER (cell 1 (pe c j) j) 0 0))
      ∗ bigSep oth (fun j => iprop(dutyTok ER (cell 2 c j) 0 0 ∗ dutyTok ER (cell 3 (pe c j) j) 0 0)))
    ⊢ (iprop(st1 c 0 0 ∗ bigSep oth fun j => pre2 c j) : sProp 𝕄) := by
  rw [st1_start, ← bigSep_sep', ← bigSep_sep', ← bigSep_sep']
  refine bigSep_mono fun j _ => ?_
  show iprop(barPay (F := F) c j ∗ (dutyTok ER (cell 0 c j) 0 0 ∗ dutyTok ER (cell 1 (pe c j) j) 0 0)
    ∗ (dutyTok ER (cell 2 c j) 0 0 ∗ dutyTok ER (cell 3 (pe c j) j) 0 0)) ⊢ (iprop(unsent1 c j ∗ pre2 c j) : sProp 𝕄)
  unfold barPay unsent1 pre2
  iintro ⟨⟨HS, HA, R1, R3⟩, ⟨T0, T1⟩, T2, T3⟩
  isplitl [HS R1 T0 T1]
  · isplitl [T0]; · iexact T0
    isplitl [T1]; · iexact T1
    isplitl [HS]; · iexact HS
    iexact R1
  isplitl [T2]; · iexact T2
  isplitl [T3]; · iexact T3
  isplitl [HA]; · iexact HA
  iexact R3

theorem waited_start (κ : Fin 4) : iprop(idle (F := F) c κ ∗ bigSep Finset.univ (fun j => credOf (F := F) c κ j)) ⊢ waited P c κ 0 := by
  unfold waited idle
  rw [upto_start, bigSep_univ_at (fun j => credOf (F := F) c κ j) 0,
    bigSep_congr (Φ := fun j => credOf (F := F) c κ j) (Ψ := fun j => cred (tallyAt (cell κ c j) () N)) fun j hj => if_neg (Finset.ne_of_mem_erase hj)]
  unfold done pend credOf
  rw [if_pos rfl, if_pos rfl, emp_left, emp_right, bigSep_sep']
  iintro ⟨⟨H0, HP⟩, HC⟩
  isplitl [H0]; · iexact H0
  isplitl [HP]; · iexact HP
  iexact HC

theorem waited_end (κ : Fin 4) : waited P c κ 7 = (iprop(bigSep Finset.univ (fun j => semVal (cell κ c j) 0) ∗ bigSep oth fun j => dmaPay P c (κ.val + 1) j) : sProp 𝕄) := by
  unfold waited
  rw [upto_end]
  unfold done
  rw [bigSep_sep', bigSep_univ_at (fun j => if j = 0 then (iprop(emp) : sProp 𝕄) else dmaPay P c (κ.val + 1) j) 0, if_pos rfl, emp_left,
    bigSep_congr (Ψ := fun j => dmaPay P c (κ.val + 1) j) fun j hj => if_neg (Finset.ne_of_mem_erase hj)]

theorem slots_back : iprop(anyAt c (slotM 0) ∗ bigSep oth fun j => slotPay P c j) ⊢ (iprop(∃ f, slotW.view.loc (c : Thread nD τ) ↦{fullShare} f) : sProp 𝕄) := by
  refine BIBase.Entails.trans ?_ (slot_back c)
  rw [bigSep_univ_at (fun j : Fin 8 => (anyAt c (slotM j) : sProp 𝕄)) 0]
  exact sep_mono .rfl (bigSep_mono fun j _ => slotPay_any P c j)
theorem whole_part : iprop(rowsAt P c c ∗ bigSep oth fun j => rowsAt P c (pe c j)) ⊢ (iprop(∃ f, partW.view.loc (c : Thread nD τ) ↦{fullShare} f) : sProp 𝕄) := by
  refine BIBase.Entails.trans ?_ (rows_back P c)
  rw [bigSep_univ_at (fun j : Fin 8 => (rowsAt P c (pe c j) : sProp 𝕄)) 0, pe_zero]
theorem whole_chunk : iprop(chunkAt P c 0 ∗ bigSep oth fun j => chunkAt P c j) ⊢ (iprop(∃ f, chunkW.view.loc (c : Thread nD τ) ↦{fullShare} f) : sProp 𝕄) := by
  rw [← bigSep_univ_at (fun j : Fin 8 => (chunkAt P c j : sProp 𝕄)) 0, ← chunk_leaves]
  iintro H; iexists (chunk P c); iexact H
theorem whole_acc : iprop(accPay P c 0 ∗ bigSep oth fun j => accPay P c j) ⊢ (accW.view.loc (c : Thread nD τ) ↦{fullShare} (gathered P) : sProp 𝕄) := by
  rw [← bigSep_univ_at (accPay P c) 0]; exact acc_back P c

/-! ## All parts -/

/-- What is left with a device once its last wait is through. -/
def finish : sProp 𝕄 :=
  iprop(Owes c (owe c ∅ ∅ ∅) ∗ zeros (F := F) c ∗ inps c X WQ KK VV WO ∗ places (F := F) c
    ∗ ((Memref.whole cc0_stg5_0).view.loc (c : Thread nD τ) ↦{fullShare} (outOf P)))

theorem body_run (hP : P c = partOf X WQ KK VV WO) (fo : Vec F S2x256x512 .f32) {Q : PUnit → sProp 𝕄} :
    ctx (F := F) P K c ⊢ iprop(Owes c (O₀ c) -∗ start (F := F) c -∗ inps c X WQ KK VV WO -∗ places (F := F) c
      -∗ ((Memref.whole cc0_stg5_0).view.loc (c : Thread nD τ) ↦{fullShare} fo)
      -∗ (finish P c X WQ KK VV WO -∗ Q ⟨⟩) -∗ run c (atArgs (cc0_body (F := F))) Q) := by
  have h0 : ∀ y, P c ((halfRect 0).emb y) = halfOf (xAt X 0) WQ (kAt KK 0) (kAt VV 0) WO y := fun y => by
    rw [hP]; unfold partOf; rw [batOf_emb, inBat_emb]
  have h1 : ∀ y, P c ((halfRect 1).emb y) = halfOf (xAt X 1) WQ (kAt KK 1) (kAt VV 1) WO y := fun y => by
    rw [hP]; unfold partOf; rw [batOf_emb, inBat_emb]
  have hO : Owes c (O₀ c) = (Owes c (owe c (hi 0) oth oth) : sProp 𝕄) := by rw [hi_zero]; rfl
  have hst : start (F := F) c ⊢ (iprop(bigSep oth (fun j => toks (F := F) c j) ∗ cred (tallyAt (bar c) () 7) ∗ atPos ER (bar c) 0 ∅ 0
      ∗ (idle c 0 ∗ idle c 1 ∗ idle c 2 ∗ idle c 3)
      ∗ bigSep Finset.univ (fun j => credOf (F := F) c 1 j) ∗ bigSep Finset.univ (fun j => credOf (F := F) c 3 j)) : sProp 𝕄) := by
    unfold start; rw [four]
  have hpl : places (F := F) c ⊢ (iprop((∃ f, halfAt c 0 f ∗ halfAt c 1 f) ∗ (∃ f, slotW.view.loc (c : Thread nD τ) ↦{fullShare} f)
      ∗ (∃ f, chunkW.view.loc (c : Thread nD τ) ↦{fullShare} f) ∗ (∃ f, accW.view.loc (c : Thread nD τ) ↦{fullShare} f)) : sProp 𝕄) := by
    have e : (iprop(∃ f, partW.view.loc (c : Thread nD τ) ↦{fullShare} f) : sProp 𝕄) = iprop(∃ f, halfAt c 0 f ∗ halfAt c 1 f) :=
      congrArg BIBase.exists (funext fun f => part_split c f)
    unfold places; rw [e]
  have hsend : (iprop(Owes c (owe c ∅ oth oth) ∗ st1 c 0 0 ∗ rows P c 0 0) : sProp 𝕄) = sending P c 0 0 := by
    unfold sending; rw [unsent_start]
  have hz : (iprop(semVal (bar c) 0 ∗ bigSep Finset.univ (fun j => semVal (cell 0 c j) 0) ∗ bigSep Finset.univ (fun j => semVal (cell 1 c j) 0)
      ∗ bigSep Finset.univ (fun j => semVal (cell 2 c j) 0) ∗ bigSep Finset.univ (fun j => semVal (cell 3 c j) 0)) : sProp 𝕄) = zeros (F := F) c := by
    unfold zeros; rw [four]
  have he0 : halfAt c 0 (P c) = (iprop(ownRow P c 0 ∗ rows P c 0 0) : sProp 𝕄) := half_rows P c 0
  rw [cc0_body_eq_skeleton]; unfold cc0_body_skel atArgs
  rw [hO]
  iintro #Hc HO Hst HI Hpl HF Hk
  icases hst $$ Hst with ⟨HT, Hcb, Hab, ⟨I0, I1, I2, I3⟩, C1, C3⟩
  icases hpl $$ Hpl with ⟨⟨%fp, HP0, HP1⟩, HS, ⟨%fc, HCh⟩, HA⟩
  icases (kick c) $$ [HT HS HA] with ⟨HU, HS0, HA0, HT1, HT2⟩
  · isplitl [HT]; · iexact HT
    isplitl [HS]; · iexact HS
    iexact HA
  iapply (seq_step c)
  rw [k0_part21_eq_skeleton]; unfold k0_part21_skel
  iapply (seq_step c)
  iapply (part1_run P K c) $$ Hc HO HU
  iintro %v2 %v24 %v8 ⟨HO, HU⟩
  iapply (seq_step c)
  iapply (part2_run P K c) $$ Hc HO HU Hcb Hab
  iintro %r ⟨HO, Hzb, HB⟩
  obtain ⟨v33, v36, v39, v42, v45, v48, v51⟩ := r
  icases (after_barrier c) $$ [HB HT1 HT2] with ⟨H1, H2⟩
  · isplitl [HB]; · iexact HB
    isplitl [HT1]; · iexact HT1
    iexact HT2
  iapply (seq_step c)
  iapply (part3_run c X WQ KK VV WO) $$ HI
  iintro HI
  iapply (seq_step c)
  iapply (part4_run c X WQ KK VV WO) $$ HI
  iintro HI
  iapply (seq_step c)
  iapply (part5_run P c X WQ KK VV WO fp (fun y => (h0 y).trans (congrFun (first_half (xAt X 0) WQ (kAt KK 0) (kAt VV 0) WO) y).symm)) $$ HI HP0
  iintro %v158 ⟨HI, HP0⟩
  icases (of_eq he0) $$ HP0 with ⟨HW0, HR⟩
  ihave HS1 := (of_eq hsend) $$ [HO H1 HR]
  · isplitl [HO]; · iexact HO
    isplitl [H1]; · iexact H1
    iexact HR
  iapply (seq_step c)
  iapply (part6_run P K c) $$ Hc HS1
  iintro %r HS1
  obtain ⟨v184, z143⟩ := r
  iapply (seq_step c)
  iapply (part7_run P K c X WQ KK VV WO) $$ Hc HS1 HI
  iintro ⟨HS1, HI⟩
  iapply (seq_step c)
  iapply (part8_run c X WQ KK VV WO) $$ HI
  iintro HI
  iapply (seq_step c)
  iapply (part9_run c X WQ KK VV WO) $$ HI
  iintro HI
  iapply (seq_step c)
  iapply (part10_run P K c X WQ KK VV WO fp (fun y => (h1 y).trans (congrFun (second_half (xAt X 1) WQ (kAt KK 1) (kAt VV 1) WO _ rfl) y).symm)) $$ Hc HS1 HI HP1
  iintro %v312 ⟨HS1, HI, HW1⟩
  iapply (seq_step c)
  iapply (part11_run P K c) $$ Hc HS1
  iintro %v339 HS1
  ihave HW := (of_eq (own_rows P c)) $$ [HW0 HW1]
  · isplitl [HW0]; · iexact HW0
    iexact HW1
  ihave W := (show _ ⊢ (upto 0 (done P c 1) (pend c 1) : sProp 𝕄) from waited_start P c 1) $$ [I1 C1]
  · isplitl [I1]; · iexact I1
    iexact C1
  iapply (seq_step c)
  iapply (part12_run P K c) $$ Hc HS1 HW W
  iintro ⟨HS1, HW, HR⟩
  iapply (seq_step c)
  iapply (part13_run P K c) $$ Hc HR
  iintro HR
  iapply (seq_step c)
  iapply (part14_run P K c) $$ Hc HR
  iintro HR
  iapply (seq_step c)
  iapply (part15_run P K c fc (sum_chain P c (slab P c) (fun j _ => slab_eq P c j))) $$ Hc HR HCh H2
  iintro %r ⟨HR, HL0, HD1⟩
  obtain ⟨v435, v445, v455, z385⟩ := r
  iapply (seq_step c)
  iapply (part16_run P K c) $$ Hc HR
  iintro %r HR
  obtain ⟨v465, v475, v485⟩ := r
  ihave W := (waited_start P c 3) $$ [I3 C3]
  · isplitl [I3]; · iexact I3
    iexact C3
  iapply (seq_step c)
  iapply (part17_run P K c) $$ Hc HR HL0 HA0 W
  iintro %v495 ⟨HO, C2, HL0, HG0, W⟩
  iapply (seq_step c)
  iapply (part18_run P K c) $$ Hc HO W
  iintro ⟨HO, W⟩
  icases (of_eq (waited_end P c 3)) $$ W with ⟨Z3, HG⟩
  ihave HG := (whole_acc P c) $$ [HG0 HG]
  · isplitl [HG0]; · iexact HG0
    iexact HG
  ihave C0 := (of_eq (st1_end c)) $$ HS1
  ihave W0 := (waited_start P c 0) $$ [I0 C0]
  · isplitl [I0]; · iexact I0
    iexact C0
  ihave W2 := (waited_start P c 2) $$ [I2 C2]
  · isplitl [I2]; · iexact I2
    iexact C2
  iapply (seq_step c)
  iapply (part19_run P K c fo) $$ Hc HO HG HF W0 W2
  iintro ⟨HO, HG, HF, W0, W2⟩
  iapply (seq_step c)
  iapply (part20_run P K c) $$ Hc HO W0 W2
  iintro ⟨HO, W0, W2⟩
  iapply (seq_step c)
  iapply (wait_of P K c 2 5 rfl rfl rfl) $$ Hc HO W2
  iintro ⟨HO, W2⟩
  iapply (ret_step c)
  iapply (seq_step c)
  iapply (wait_of P K c 0 6 rfl rfl (credit_part _ _)) $$ Hc HO W0
  iintro ⟨HO, W0⟩
  iapply (ret_step c)
  iapply (seq_step c)
  iapply (wait_of P K c 2 6 rfl rfl rfl) $$ Hc HO W2
  iintro ⟨HO, W2⟩
  iapply (ret_step c)
  iapply (seq_step c)
  iapply (wait_of P K c 0 7 rfl rfl (credit_part _ _)) $$ Hc HO W0
  iintro ⟨HO, W0⟩
  iapply (ret_step c)
  iapply (ret_step c)
  iapply (seq_step c)
  iapply (wait_of P K c 2 7 rfl rfl rfl) $$ Hc HO W2
  iintro ⟨HO, W2⟩
  iapply (ret_step c)
  iapply (ret_step c)
  icases (of_eq (waited_end P c 0)) $$ W0 with ⟨Z0, HRows⟩
  icases (of_eq (waited_end P c 2)) $$ W2 with ⟨Z2, HLeaves⟩
  icases (of_eq ((upto_end (done P c 1) (pend c 1)).symm.trans (waited_end P c 1))) $$ HD1 with ⟨Z1, HSlots⟩
  iapply Hk
  unfold finish places
  isplitl [HO]; · iexact HO
  isplitl [Hzb Z0 Z1 Z2 Z3]
  · iapply (of_eq hz)
    isplitl [Hzb]; · iexact Hzb
    isplitl [Z0]; · iexact Z0
    isplitl [Z1]; · iexact Z1
    isplitl [Z2]; · iexact Z2
    iexact Z3
  isplitl [HI]; · iexact HI
  isplitr [HF]
  · isplitl [HW HRows]
    · iapply (whole_part P c)
      isplitl [HW]; · iexact HW
      iexact HRows
    isplitl [HS0 HSlots]
    · iapply (slots_back P c)
      isplitl [HS0]; · iexact HS0
      iexact HSlots
    isplitl [HL0 HLeaves]
    · iapply (whole_chunk P c)
      isplitl [HL0]; · iexact HL0
      iexact HLeaves
    iexists (gathered P); iexact HG
  iexact HF

end Cert.Exchange
-- ==== Proof.Region.lean ====
/-
The kernel call as a region of the host program: what it is entered from, that its body meets its obligation
(`body_run`), and what it leaves in the arrays.
-/
module

public import proofs.«01_k».proof.Proof.Body4
public import Idealize.ShloMosaic.Lib.Pipeline.RegionTalk

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The partial product every device makes of its operands. -/
def PP (c : Dev nD) : Vec F S512x512 .bf16 :=
  partOf (V1 m c main_arg0) (V1 m c main_v9) (V1 m c main_arg2) (V1 m c main_arg3) (V1 m c main_v14)

/-! ## The region's data -/

/-- What the body is entered from, and what it leaves, beside its windows. -/
def Φ₀ (c : Dev nD) : sProp 𝕄 := iprop((∃ K, ctx (PP m) K c) ∗ start c ∗ places c ∗ ∃ r, prngReg c r)
def Φ₁ (c : Dev nD) : sProp 𝕄 := iprop(zeros c ∗ places c ∗ ∃ r, prngReg c r)

def pdats (_ : Fin 1) (c : Dev nD) : Dat τ (Elt F) Unit ℕ UU ℕ cfg0 c where
  A w := V1 m c (Proc.devRef .tc (Pipeline.arrRef spec0 w))
  after w _ := match w with
    | ⟨0, _⟩ => V1 m c main_arg0
    | ⟨1, _⟩ => V1 m c main_v9
    | ⟨2, _⟩ => V1 m c main_arg2
    | ⟨3, _⟩ => V1 m c main_arg3
    | ⟨4, _⟩ => V1 m c main_v14
    | ⟨5, _⟩ => outOf (PP m)
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole (c : Dev nD) (b : Ref sig .tc) (X : b.ty.Contents (Elt F)) :
    (owns (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A window's block at the only point is its whole array. -/
theorem off_zero {s : Shape} : (fun a => 0 * s.size a) = fun _ => 0 := funext fun a => Nat.zero_mul _

section Before

variable {c : Dev nD} (dat : Dat τ (Elt F) Unit ℕ UU ℕ cfg0 c)

theorem before_0 (d) : dat.before (0 : Fin 6) t0_0 d = dat.A (0 : Fin 6) := by
  unfold Dat.before; rw [if_pos (fetch0_0 _)]
  exact (show dat.fetched (0 : Fin 6) t0_0 d = dat.blockOf (0 : Fin 6) t0_0 from rfl).trans (Memref.read_access_unit_zero (Elt F) main_arg0 off_zero _ _)
theorem before_1 (d) : dat.before (1 : Fin 6) t0_0 d = dat.A (1 : Fin 6) := by
  unfold Dat.before; rw [if_pos (fetch0_1 _)]
  exact (show dat.fetched (1 : Fin 6) t0_0 d = dat.blockOf (1 : Fin 6) t0_0 from rfl).trans (Memref.read_access_unit_zero (Elt F) main_v9 off_zero _ _)
theorem before_2 (d) : dat.before (2 : Fin 6) t0_0 d = dat.A (2 : Fin 6) := by
  unfold Dat.before; rw [if_pos (fetch0_2 _)]
  exact (show dat.fetched (2 : Fin 6) t0_0 d = dat.blockOf (2 : Fin 6) t0_0 from rfl).trans (Memref.read_access_unit_zero (Elt F) main_arg2 off_zero _ _)
theorem before_3 (d) : dat.before (3 : Fin 6) t0_0 d = dat.A (3 : Fin 6) := by
  unfold Dat.before; rw [if_pos (fetch0_3 _)]
  exact (show dat.fetched (3 : Fin 6) t0_0 d = dat.blockOf (3 : Fin 6) t0_0 from rfl).trans (Memref.read_access_unit_zero (Elt F) main_arg3 off_zero _ _)
theorem before_4 (d) : dat.before (4 : Fin 6) t0_0 d = dat.A (4 : Fin 6) := by
  unfold Dat.before; rw [if_pos (fetch0_4 _)]
  exact (show dat.fetched (4 : Fin 6) t0_0 d = dat.blockOf (4 : Fin 6) t0_0 from rfl).trans (Memref.read_access_unit_zero (Elt F) main_v14 off_zero _ _)

end Before

/-! ## The body's obligation -/

theorem owesAt_in (c : Dev nD) : ((pdats m 0 c).owesAt () (t0_0 : Fin cfg0.N).castSucc : sProp 𝕄) ⊢ Owes c (O₀ c) := by
  unfold Dat.owesAt Pipeline.owesWithin Owes
  iintro ⟨%W, -, HO⟩; iexists W; iexact HO
theorem owesAt_out (c : Dev nD) : (Owes c (owe c ∅ ∅ ∅) : sProp 𝕄) ⊢ (pdats m 0 c).owesAt () (t0_0 : Fin cfg0.N).succ := by
  rw [owe_none]
  unfold Dat.owesAt Pipeline.owesWithin Owes
  iintro ⟨%W, HO⟩; iexists W
  isplitr; · ipureintro; exact fun _ _ => Or.inl trivial
  iexact HO

theorem stage_in (c : Dev nD) (b : Ref sig .tc) (X Y : b.ty.Contents (Elt F)) (h : X = Y) :
    (iprop(∃ f : Buf (Elt F) (((c : Dev nD) : Thread nD τ).loc b), ⌜f = X⌝ ∗ (((c : Thread nD τ).loc b) ↦{fullShare} f)) : sProp 𝕄)
      ⊢ ((c : Thread nD τ).loc b) ↦{fullShare} Y := by
  subst h
  iintro ⟨%f, %hf, H⟩; subst hf; iexact H
theorem stage_out (c : Dev nD) (b : Ref sig .tc) (X : b.ty.Contents (Elt F)) :
    (((c : Thread nD τ).loc b) ↦{fullShare} X)
      ⊢ (iprop(∃ f : Buf (Elt F) (((c : Dev nD) : Thread nD τ).loc b), ⌜f = X⌝ ∗ (((c : Thread nD τ).loc b) ↦{fullShare} f)) : sProp 𝕄) := by
  iintro H; iexists X; isplitr; · ipureintro; rfl
  iexact H

theorem body_ok (c : Dev nD) : BodyObligation (pdats m 0 c) (defs₀ (F := F)) 𝒱₀ () Set.univ := fun t => by
  obtain rfl := fin_N0 t
  rw [bigSep_W0, bigSep_W0]
  show iprop(Φ₀ m c ∗ (pdats m 0 c).owesAt () (t0_0 : Fin cfg0.N).castSucc
      ∗ (∃ d, owns (c : Thread nD τ) (Memref.whole cc0_stg0_0) fullShare ((pdats m 0 c).before (0 : Fin 6) t0_0 d))
      ∗ (∃ d, owns (c : Thread nD τ) (Memref.whole cc0_stg1_0) fullShare ((pdats m 0 c).before (1 : Fin 6) t0_0 d))
      ∗ (∃ d, owns (c : Thread nD τ) (Memref.whole cc0_stg2_0) fullShare ((pdats m 0 c).before (2 : Fin 6) t0_0 d))
      ∗ (∃ d, owns (c : Thread nD τ) (Memref.whole cc0_stg3_0) fullShare ((pdats m 0 c).before (3 : Fin 6) t0_0 d))
      ∗ (∃ d, owns (c : Thread nD τ) (Memref.whole cc0_stg4_0) fullShare ((pdats m 0 c).before (4 : Fin 6) t0_0 d))
      ∗ (∃ d, owns (c : Thread nD τ) (Memref.whole cc0_stg5_0) fullShare ((pdats m 0 c).before (5 : Fin 6) t0_0 d)))
    ⊢ run c (atArgs (cc0_body (F := F))) (fun _ => iprop(Φ₁ c ∗ (pdats m 0 c).owesAt () (t0_0 : Fin cfg0.N).succ
      ∗ owns (c : Thread nD τ) (Memref.whole cc0_stg0_0) fullShare (V1 m c main_arg0)
      ∗ owns (c : Thread nD τ) (Memref.whole cc0_stg1_0) fullShare (V1 m c main_v9)
      ∗ owns (c : Thread nD τ) (Memref.whole cc0_stg2_0) fullShare (V1 m c main_arg2)
      ∗ owns (c : Thread nD τ) (Memref.whole cc0_stg3_0) fullShare (V1 m c main_arg3)
      ∗ owns (c : Thread nD τ) (Memref.whole cc0_stg4_0) fullShare (V1 m c main_v14)
      ∗ owns (c : Thread nD τ) (Memref.whole cc0_stg5_0) fullShare (outOf (PP m))))
  simp only [owns_whole]
  unfold Φ₀
  iintro ⟨⟨⟨%K, #Hc⟩, Hs, Hp, Hreg⟩, HO, ⟨%d0, H0⟩, ⟨%d1, H1⟩, ⟨%d2, H2⟩, ⟨%d3, H3⟩, ⟨%d4, H4⟩, ⟨%d5, %f5, -, H5⟩⟩
  ihave H0 := (stage_in c cc0_stg0_0 _ _ (before_0 (pdats m 0 c) d0)) $$ H0
  ihave H1 := (stage_in c cc0_stg1_0 _ _ (before_1 (pdats m 0 c) d1)) $$ H1
  ihave H2 := (stage_in c cc0_stg2_0 _ _ (before_2 (pdats m 0 c) d2)) $$ H2
  ihave H3 := (stage_in c cc0_stg3_0 _ _ (before_3 (pdats m 0 c) d3)) $$ H3
  ihave H4 := (stage_in c cc0_stg4_0 _ _ (before_4 (pdats m 0 c) d4)) $$ H4
  ihave HO := (owesAt_in m c) $$ HO
  iapply (body_run (PP m) K c (V1 m c main_arg0) (V1 m c main_v9) (V1 m c main_arg2) (V1 m c main_arg3) (V1 m c main_v14) rfl f5)
    $$ Hc HO Hs [H0 H1 H2 H3 H4] Hp H5
  · unfold inps
    isplitl [H0]; · iexact H0
    isplitl [H1]; · iexact H1
    isplitl [H2]; · iexact H2
    isplitl [H3]; · iexact H3
    iexact H4
  unfold finish inps Φ₁
  iintro ⟨HO, Hz, ⟨H0, H1, H2, H3, H4⟩, Hp, H5⟩
  isplitl [Hz Hp Hreg]
  · isplitl [Hz]; · iexact Hz
    isplitl [Hp]; · iexact Hp
    iexact Hreg
  isplitl [HO]; · iapply (owesAt_out m c) $$ HO
  isplitl [H0]; · iapply (stage_out c cc0_stg0_0 _) $$ H0
  isplitl [H1]; · iapply (stage_out c cc0_stg1_0 _) $$ H1
  isplitl [H2]; · iapply (stage_out c cc0_stg2_0 _) $$ H2
  isplitl [H3]; · iapply (stage_out c cc0_stg3_0 _) $$ H3
  isplitl [H4]; · iapply (stage_out c cc0_stg4_0 _) $$ H4
  iapply (stage_out c cc0_stg5_0 _) $$ H5

/-! ## What the arrays hold at the end -/

theorem out_end (c : Dev nD) : (pdats m 0 c).arrAt (5 : Fin 6) cfg0.N = outOf (PP m) := by
  have hN : cfg0.N = (t0_0 : Fin cfg0.N).val + 1 := by decide
  refine (congrArg ((pdats m 0 c).arrAt (5 : Fin 6)) hN).trans ?_
  rw [(pdats m 0 c).arrAt_succ (5 : Fin 6) t0_0, if_pos (flush0_5 _)]
  exact Memref.write_access_unit_zero_univ (Elt F) main_v15 off_zero _ _ _

/-- The unscoped buffers after the call: the result is every device's summed rows. -/
def Vend (c : Dev nD) : Valuation τ sig (Elt F) := Function.update (V1 m c) main_v15 (outOf (PP m))

theorem Vend_out (c : Dev nD) : Vend m c main_v15 = outOf (PP m) := Function.update_self ..
theorem Vend_of (c : Dev nD) (r : Ref sig .tc) (h : r ≠ main_v15) : Vend m c r = V1 m c r :=
  Function.update_of_ne (StableHlo.devRef_ne_of_ne h) ..

theorem arr_start (c : Dev nD) (w : Fin 6) : (pdats m 0 c).arrAt w 0 = V1 m c (Proc.devRef .tc (Pipeline.arrRef spec0 w)) := rfl
theorem arr_end (c : Dev nD) (w : Fin 6) : (pdats m 0 c).arrAt w cfg0.N = Vend m c (Proc.devRef .tc (Pipeline.arrRef spec0 w)) := by
  fin_cases w
  · exact ((pdats m 0 c).arrAt_in (0 : Fin 6) rfl _).trans (Vend_of m c main_arg0 (by decide)).symm
  · exact ((pdats m 0 c).arrAt_in (1 : Fin 6) rfl _).trans (Vend_of m c main_v9 (by decide)).symm
  · exact ((pdats m 0 c).arrAt_in (2 : Fin 6) rfl _).trans (Vend_of m c main_arg2 (by decide)).symm
  · exact ((pdats m 0 c).arrAt_in (3 : Fin 6) rfl _).trans (Vend_of m c main_arg3 (by decide)).symm
  · exact ((pdats m 0 c).arrAt_in (4 : Fin 6) rfl _).trans (Vend_of m c main_v14 (by decide)).symm
  · exact (out_end m c).trans (Vend_out m c).symm

end Cert.Exchange
-- ==== Proof.Launch.lean ====
/-
The kernel call's segment: its copy cells are opened on entry, and the exchange's ghost state is handed to the body.
-/
module

public import proofs.«01_k».proof.Proof.Region

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-! ## The copy cells opened on entry -/

/-- The semaphores the kernel declares, by array and slot. -/
abbrev osem (p : Fin 4 × Fin 8) : SemLoc sig := .dma (own p.1 p.2)

theorem cell_inv (P : Dev nD → Vec F S512x512 .bf16) (K : GSem nD τ sig → ℕ) (c : Dev nD) (k : Fin 4) (j : Fin 8) (hj : j ∈ oth) :
    invs (F := F) P K ⊢ cellInv ER (Rd (F := F) P) (K (cell k c j)) (cell k c j) := by
  have h1 : (bigSep (Finset.univ : Finset (Dev nD × Fin 4)) fun p => bigSep oth fun j => cellInv ER (Rd (F := F) P) (K (cell p.2 p.1 j)) (cell p.2 p.1 j))
      ⊢ bigSep oth fun j => cellInv ER (Rd (F := F) P) (K (cell k c j)) (cell k c j) := bigSep_elim (Finset.mem_univ (c, k))
  have h2 : (bigSep oth fun j => cellInv ER (Rd (F := F) P) (K (cell k c j)) (cell k c j)) ⊢ cellInv ER (Rd (F := F) P) (K (cell k c j)) (cell k c j) :=
    bigSep_elim hj
  unfold invs
  iintro ⟨-, H⟩
  iapply h2
  iapply h1 $$ H

/-- One copy cell's counter, put into its cell. -/
theorem open_one (P : Dev nD → Vec F S512x512 .bf16) (K : GSem nD τ sig → ℕ) (c : Dev nD) (k : Fin 4) (j : Fin 8) (hj : j ∈ oth) :
    iprop(invs (F := F) P K ∗ (openTok ER (cell k c j) ∗ semVal (cell k c j) 0))
      ⊢ iprop(|={Set.univ}=> (atPos ER (cell k c j) 0 ∅ 0 ∗ reached ER (cell k c j) 0) : sProp 𝕄) := by
  iintro ⟨#HI, HO, HV⟩
  ihave #Hc := (cell_inv P K c k j hj) $$ HI
  iapply (Rounds.cell_open ER (Rd (F := F) P) (g := cell k c j) (Set.mem_univ (K (cell k c j))))
  isplitr; · iexact Hc
  isplitl [HO] <;> iassumption

/-- All of a device's copy cells at once. -/
theorem open_all (P : Dev nD → Vec F S512x512 .bf16) (K : GSem nD τ sig → ℕ) (c : Dev nD) :
    iprop(invs (F := F) P K ∗ bigSep Finset.univ fun k : Fin 4 => bigSep oth fun j => iprop(openTok ER (cell k c j) ∗ semVal (cell k c j) 0))
      ⊢ iprop(|={Set.univ}=> (bigSep Finset.univ fun k : Fin 4 => bigSep oth fun j =>
          iprop(atPos ER (cell k c j) 0 ∅ 0 ∗ reached ER (cell k c j) 0)) : sProp 𝕄) :=
  (bigSep_with_persistent (R := invs (F := F) P K) fun k _ =>
    (bigSep_with_persistent (R := invs (F := F) P K) fun j hj => open_one P K c k j hj).trans (bigSep_fupd _ _)).trans (bigSep_fupd _ _)

/-- The kernel's own counters: those of the slots in use, and the four of slot 0. -/
theorem counters (c : Dev nD) : (Pipeline.ownSems0 osem c : sProp 𝕄)
    = iprop((bigSep Finset.univ fun k : Fin 4 => semVal (cell k c 0) 0) ∗ bigSep Finset.univ fun k : Fin 4 => bigSep oth fun j => semVal (cell k c j) 0) := by
  unfold Pipeline.ownSems0
  rw [bigSep_univ_prod, ← bigSep_sep']
  exact bigSep_congr fun k _ => bigSep_univ_at _ 0

/-! ## What the launch keeps for the region -/

def Tk (c : Dev nD) : sProp 𝕄 :=
  iprop((∃ K, invs (PP m) K ∗ bigSep Finset.univ fun d : Dev nD => reached ER (bar d) 0) ∗ bigSep oth (toks c) ∗ cred (tallyAt (bar c) () 7)
    ∗ atPos ER (bar c) 0 ∅ 0 ∗ (bigSep Finset.univ fun k : Fin 4 => bigSep oth fun j => openTok ER (cell k c j))
    ∗ bigSep Finset.univ (credOf c 1) ∗ bigSep Finset.univ (credOf c 3))
def Xk (c : Dev nD) : sProp 𝕄 := iprop((∃ K, ctx (PP m) K c) ∗ start c)
def Yk (c : Dev nD) : sProp 𝕄 := semVal (bar c) 0

theorem region_open (c : Dev nD) : iprop(Tk m c ∗ Pipeline.ownSems0 osem c ∗ levAts L lv) ⊢ (|={Set.univ}=> Xk m c : sProp 𝕄) := by
  rw [counters]
  unfold Tk Xk
  iintro ⟨⟨⟨%K, #HI, #HR⟩, Ht, Hb, Ha, Ho, H1, H3⟩, ⟨Hz, Hv⟩, #HL⟩
  have hp : iprop((bigSep Finset.univ fun k : Fin 4 => bigSep oth fun j => (openTok ER (cell k c j) : sProp 𝕄))
        ∗ bigSep Finset.univ fun k : Fin 4 => bigSep oth fun j => (semVal (cell k c j) 0 : sProp 𝕄))
      = bigSep Finset.univ fun k : Fin 4 => bigSep oth fun j => iprop(openTok ER (cell k c j) ∗ semVal (cell k c j) 0) := by
    rw [← bigSep_sep']; exact bigSep_congr fun k _ => (bigSep_sep' _ _ _).symm
  have hq : (bigSep Finset.univ fun k : Fin 4 => bigSep oth fun j => (iprop(atPos ER (cell k c j) 0 ∅ 0 ∗ reached ER (cell k c j) 0) : sProp 𝕄))
      = iprop((bigSep Finset.univ fun k : Fin 4 => bigSep oth fun j => atPos ER (cell k c j) 0 ∅ 0)
        ∗ bigSep Finset.univ fun k : Fin 4 => bigSep oth fun j => reached ER (cell k c j) 0) := by
    rw [← bigSep_sep']; exact bigSep_congr fun k _ => bigSep_sep' _ _ _
  imod (open_all (PP m) K c) $$ [Ho Hv] with H
  · isplitr; · iexact HI
    iapply (of_eq hp)
    isplitl [Ho] <;> iassumption
  icases (of_eq hq) $$ H with ⟨Hpos, #Hmk⟩
  imodintro
  isplitr
  · iexists K
    unfold ctx marks
    isplitr; · iexact HI
    isplitr
    · isplitr; · iexact HR
      iexact Hmk
    iexact HL
  unfold start
  isplitl [Ht]; · iexact Ht
  isplitl [Hb]; · iexact Hb
  isplitl [Ha]; · iexact Ha
  isplitl [Hz Hpos]
  · iapply (of_eq (bigSep_sep' (s := (Finset.univ : Finset (Fin 4))) (Φ := fun k => (semVal (cell k c 0) 0 : sProp 𝕄))
      (Ψ := fun k => bigSep oth fun j => (atPos ER (cell k c j) 0 ∅ 0 : sProp 𝕄))).symm)
    isplitl [Hz] <;> iassumption
  isplitl [H1] <;> iassumption

theorem region_in (c : Dev nD) :
    iprop(Pipeline.scopedRest (Pipeline.pin (pcfgs (F := F)) adm 0).spec c ∗ (∃ r, prngReg c r) ∗ StableHlo.held (c.tc : Thread nD τ) ∅ (V1 m c) ∗ Xk m c)
      ⊢ (pdats m 0 c).Φ 0 := by
  show iprop(Pipeline.scopedRest spec0 c ∗ (∃ r, prngReg c r) ∗ StableHlo.held (c.tc : Thread nD τ) ∅ (V1 m c) ∗ Xk m c) ⊢ Φ₀ m c
  rw [scopedRest0_eq]
  unfold Φ₀ Xk places
  iintro ⟨Hs, Hp, -, HK, HS⟩
  isplitl [HK]; · iexact HK
  isplitl [HS]; · iexact HS
  isplitl [Hs]; · iexact Hs
  iexact Hp

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (Vend m c)
      ∗ Pipeline.ownSems0 osem c ∗ Yk c) := by
  have hh : (StableHlo.held (c.tc : Thread nD τ) ∅ (Vend m c) : sProp 𝕄) = iprop(emp) := by unfold StableHlo.held; exact bigSep_empty
  have hz : (Pipeline.ownSems0 osem c : sProp 𝕄) = bigSep Finset.univ fun k : Fin 4 => bigSep Finset.univ fun j : Fin 8 => semVal (cell k c j) 0 := by
    unfold Pipeline.ownSems0; rw [bigSep_univ_prod]
  show Φ₁ c ⊢ iprop(Pipeline.scopedRest spec0 c ∗ (∃ r, prngReg c r) ∗ StableHlo.held (c.tc : Thread nD τ) ∅ (Vend m c) ∗ Pipeline.ownSems0 osem c ∗ Yk c)
  rw [scopedRest0_eq, hh, hz]
  unfold Φ₁ places zeros Yk
  iintro ⟨⟨Hb, Hz⟩, Hs, Hp⟩
  isplitl [Hs]; · iexact Hs
  isplitl [Hp]; · iexact Hp
  isplitr; · iempintro
  isplitl [Hz] <;> iassumption

/-! ## The region -/

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- No staging semaphore is one of the exchange's. -/
theorem stage_low : ∀ (w : Fin 6) (s : Fin (spec0 w).nbuf), semLv (.dma ((spec0 w).sem s)) = 0 := by decide

theorem owed_ok (c : Dev nD) (t : Fin (cfg0.N + 1)) (g : GSem nD τ sig) (i : Unit) (h : 0 < (pdats (F := F) m 0 c).owed t g i) :
    i ∈ L g ∧ (0 : ℕ) < lv g i := by
  obtain ⟨t, ht⟩ := t
  cases t with
  | zero =>
    rcases owe_pos (show 0 < owe c oth oth oth g i from h) with ⟨j, -, rfl⟩ | ⟨j, -, rfl⟩ | ⟨j, -, rfl⟩
    · exact ⟨by rw [L_tc]; exact Finset.mem_singleton_self _, by rw [lv_bar]; decide⟩
    · exact ⟨by rw [L_tc]; exact Finset.mem_singleton_self _, by rw [lv_cell]; decide⟩
    · exact ⟨by rw [L_tc]; exact Finset.mem_singleton_self _, by rw [lv_cell]; decide⟩
  | succ n => exact absurd h (Nat.lt_irrefl 0)

/-- The unscoped buffers no window names. -/
abbrev others : Finset (DevRef τ sig) := Pipeline.ucRefs τ sig \ Pipeline.arrRefs (τ := τ) spec0

theorem others_kept (c : Dev nD) : ∀ b ∈ others \ ∅, Vend m c b = V1 m c b := fun b hb => by
  refine Function.update_of_ne (fun e => ?_) ..
  subst e
  exact (Finset.mem_sdiff.mp (Finset.mem_sdiff.mp hb).1).2
    (Finset.mem_map_of_mem _ (Finset.mem_image.mpr ⟨(5 : Fin 6), Finset.mem_univ _, rfl⟩))

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) kit0 rfl (fun c => (body_ok m c).loose)
    (fun _ => 0) O₀ (fun c => (zero_add (O₀ c)).symm) (fun _ => rfl) (fun _ => rfl)
    (fun _ _ => by unfold Dat.share; split <;> rfl)
    (V1 m) (Vend m) (others_kept m) (Tk m) Yk (Xk m) Yk (region_open m) (region_in m) (region_out m)
    (fun c => by iintro H; imodintro; iexact H)
    (fun _ => 0)
    ⟨fun c w s => by rw [L_tc]; exact Finset.mem_singleton_self _, fun c w s => le_of_eq (stage_low w s), fun c t g i h => owed_ok m c t g i h⟩
    (fun _ => iprop(emp))
    (arr_start m) (arr_end m)

/-- What rides beside the buffers: before the call and after it. -/
def ride (i : Fin 2) (c : Dev nD) : sProp 𝕄 :=
  match i with
  | 0 => iprop((∃ r, prngReg c r) ∗ Tk m c ∗ Owes c (O₀ c))
  | 1 => iprop(Yk c ∗ Owes c 0)

theorem reg0_pre (c : Dev nD) : iprop(StableHlo.held (c : Thread nD τ) (Pipeline.ucRefs τ sig) (V1 m c) ∗ ride m 0 c) ⊢ (reg0 m).pre c := by
  show iprop(StableHlo.held (c.tc : Thread nD τ) (Pipeline.ucRefs τ sig) (V1 m c) ∗ ((∃ r, prngReg c r) ∗ Tk m c ∗ Owes c (O₀ c)))
    ⊢ iprop(StableHlo.held (c.tc : Thread nD τ) (Pipeline.arrRefs (τ := τ) spec0) (V1 m c) ∗ (∃ r, prngReg c r)
      ∗ (StableHlo.held (c.tc : Thread nD τ) others (V1 m c) ∗ emp) ∗ Tk m c ∗ ∃ Wd, owes (c : Thread nD τ) (0 + O₀ c) Wd)
  rw [zero_add, StableHlo.held_sub_split (c.tc : Thread nD τ) (Pipeline.arrRefs_sub_ucRefs spec0 winFacts0.arr_unscoped) (V1 m c)]
  unfold Owes
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption

theorem reg0_post (c : Dev nD) : (reg0 m).post c ⊢ iprop(StableHlo.held (c : Thread nD τ) (Pipeline.ucRefs τ sig) (Vend m c) ∗ ride m 1 c) := by
  show iprop(StableHlo.held (c.tc : Thread nD τ) (Pipeline.arrRefs (τ := τ) spec0) (Vend m c) ∗ (∃ r, prngReg c r)
      ∗ (StableHlo.held (c.tc : Thread nD τ) others (Vend m c) ∗ emp) ∗ Yk c ∗ ∃ Wd, owes (c : Thread nD τ) (0 : CellTallies nD τ sig Unit) Wd)
    ⊢ iprop(StableHlo.held (c.tc : Thread nD τ) (Pipeline.ucRefs τ sig) (Vend m c) ∗ (Yk c ∗ Owes c 0))
  rw [StableHlo.held_sub_split (c.tc : Thread nD τ) (Pipeline.arrRefs_sub_ucRefs spec0 winFacts0.arr_unscoped) (Vend m c)]
  unfold Owes
  iintro ⟨Ha, -, ⟨Hr, -⟩, HY, HO⟩
  isplitl [Ha Hr]
  · isplitl [Ha] <;> iassumption
  isplitl [HY] <;> iassumption

end Cert.Exchange
-- ==== Proof.Run.lean ====
/-
The whole run: the launch deals the exchange's ghost state to the devices, the host program enters the kernel call, and
the final state is read off.
-/
module

public import proofs.«01_k».proof.Proof.Launch
public import Idealize.ShloMosaic.Lib.Quiescent
public import Idealize.ShloMosaic.Harness.Basic
public import Idealize.ShloMosaic.Lib.SparseCore.Launch

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ) (ρ : Dev nD → PrngReg)

/-! ## The launch: every cell funded, every duty's token dealt -/

theorem own_inj (k k' : Fin 4) (j j' : Fin 8) (h : own k j = own k' j') : k = k' ∧ j = j' := by
  have hk := congrArg kindOf h
  have hs := congrArg slotOf h
  rw [kindOf_own, kindOf_own] at hk
  rw [slotOf_own, slotOf_own] at hs
  exact ⟨Fin.ext (by omega), hs⟩
theorem cell_inj {k k' : Fin 4} {c c' : Dev nD} {j j' : Fin 8} (h : cell k c j = cell k' c' j') : k = k' ∧ c = c' ∧ j = j' := by
  have h1 : c = c' := congrArg (fun g : GSem nD τ sig => g.1.1) h
  have h2 : SemLoc.dma (own k j) = SemLoc.dma (own k' j') := congrArg Prod.snd h
  obtain ⟨hk, hj⟩ := own_inj k k' j j' (SemLoc.dma.inj h2)
  exact ⟨hk, h1, hj⟩
theorem bar_inj {c c' : Dev nD} (h : bar c = bar c') : c = c' := congrArg (fun g : GSem nD τ sig => g.1.1) h
theorem bar_ne_cell (k : Fin 4) (c d : Dev nD) (j : Fin 8) : bar c ≠ cell k d j := fun h => nomatch (congrArg Prod.snd h)

def barEmb : Dev nD ↪ GSem nD τ sig := ⟨bar, fun _ _ => bar_inj⟩
def cellEmb : (Dev nD × Fin 4) × Fin 8 ↪ GSem nD τ sig :=
  ⟨fun x => cell x.1.2 x.1.1 x.2, fun x y h => by
    obtain ⟨hk, hc, hj⟩ := cell_inj h
    exact Prod.ext (Prod.ext hc hk) hj⟩
def barTok : Dev nD × Fin 8 ↪ GSem nD τ sig × ℕ × Fin 8 :=
  ⟨fun x => (bar x.1, 0, x.2), fun x y h =>
    Prod.ext (bar_inj (congrArg Prod.fst h)) (congrArg (fun t : GSem nD τ sig × ℕ × Fin 8 => t.2.2) h)⟩
def cellTok : (Dev nD × Fin 4) × Fin 8 ↪ GSem nD τ sig × ℕ × Fin 8 :=
  ⟨fun x => (cellEmb x, 0, 0), fun x y h => cellEmb.injective (congrArg Prod.fst h)⟩

abbrev barCells : Finset (GSem nD τ sig) := Finset.univ.map barEmb
abbrev copyCells : Finset (GSem nD τ sig) := (Finset.univ ×ˢ oth).map cellEmb
abbrev barToks : Finset (GSem nD τ sig × ℕ × Fin 8) := (Finset.univ ×ˢ oth).map barTok
abbrev copyToks : Finset (GSem nD τ sig × ℕ × Fin 8) := (Finset.univ ×ˢ oth).map cellTok

theorem cells_apart : Disjoint barCells copyCells := by
  rw [Finset.disjoint_left]
  intro g h₁ h₂
  obtain ⟨c, -, rfl⟩ := Finset.mem_map.mp h₁
  obtain ⟨x, -, h⟩ := Finset.mem_map.mp h₂
  exact bar_ne_cell _ _ _ _ h.symm
theorem toks_apart : Disjoint barToks copyToks := by
  rw [Finset.disjoint_left]
  intro g h₁ h₂
  obtain ⟨c, -, rfl⟩ := Finset.mem_map.mp h₁
  obtain ⟨x, -, h⟩ := Finset.mem_map.mp h₂
  exact bar_ne_cell _ _ _ _ (congrArg Prod.fst h).symm

/-! ### What each family of the launch is, device by device -/

theorem invs_eq (P : Dev nD → Vec F S512x512 .bf16) (K : GSem nD τ sig → ℕ) :
    (bigSep (barCells ∪ copyCells) fun g => cellInv ER (Rd (F := F) P) (K g) g) = invs (F := F) P K := by
  rw [BI.bigSep_union cells_apart, bigSep_map, bigSep_map, SparseCore.bigSep_product]; rfl

theorem open_eq : (bigSep copyCells fun g => (openTok ER g : sProp 𝕄))
    = bigSep Finset.univ fun c : Dev nD => bigSep Finset.univ fun k : Fin 4 => bigSep oth fun j => openTok ER (cell k c j) := by
  rw [bigSep_map, SparseCore.bigSep_product, bigSep_univ_prod]; rfl

theorem oth_ng : oth.map ngOn.toEmbedding = oth := by decide

/-- A family over the other slots, read in the order the other side has them. -/
theorem bigSep_ng (Φ : Fin 8 → sProp 𝕄) : bigSep oth Φ = bigSep oth fun j => Φ (ng j) := by
  conv_lhs => rw [← oth_ng, bigSep_map]
  rfl
/-- A family over devices and slots, slots first. -/
theorem swap_fam (Φ : Dev nD → Fin 8 → sProp 𝕄) :
    (bigSep Finset.univ fun c : Dev nD => bigSep oth fun j => Φ c j) = bigSep oth fun j => bigSep Finset.univ fun c : Dev nD => Φ c j := by
  induction oth using Finset.induction_on with
  | empty => simp only [BI.bigSep_empty]; exact BI.bigSep_emp_const _
  | insert j t hj ih => rw [BI.bigSep_insert hj, ← ih, ← BI.bigSep_sep]; exact bigSep_congr fun c _ => BI.bigSep_insert hj
/-- A family over devices and slots, each device read at its peer of the slot. -/
theorem bigSep_pe (Φ : Dev nD → Fin 8 → sProp 𝕄) :
    (bigSep Finset.univ fun c : Dev nD => bigSep oth fun j => Φ c j) = bigSep Finset.univ fun c : Dev nD => bigSep oth fun j => Φ (pe c j) j := by
  rw [swap_fam, swap_fam]
  exact bigSep_congr fun j _ => bigSep_univ_equiv (peOn j) fun c => Φ c j

theorem sep_flat (P Q R : sProp 𝕄) : iprop((P ∗ Q) ∗ R) = iprop(P ∗ Q ∗ R) :=
  BI.equiv_iff.mp ⟨show iprop((P ∗ Q) ∗ R) ⊢ iprop(P ∗ Q ∗ R) from Laws.sep_assoc.1, show iprop(P ∗ Q ∗ R) ⊢ iprop((P ∗ Q) ∗ R) from Laws.sep_assoc.2⟩

theorem toks_eq : (bigSep (barToks ∪ copyToks) fun x => (dutyTok ER x.1 x.2.1 x.2.2 : sProp 𝕄))
    = bigSep Finset.univ fun c : Dev nD => bigSep oth (toks c) := by
  have h4 : ∀ c : Dev nD, (bigSep Finset.univ fun k : Fin 4 => bigSep oth fun j => (dutyTok ER (cell k c j) 0 0 : sProp 𝕄))
      = iprop((bigSep oth fun j => dutyTok ER (cell 0 c j) 0 0) ∗ (bigSep oth fun j => dutyTok ER (cell 1 c j) 0 0)
        ∗ (bigSep oth fun j => dutyTok ER (cell 2 c j) 0 0) ∗ (bigSep oth fun j => dutyTok ER (cell 3 c j) 0 0)) := fun c => four _
  have hb : (bigSep Finset.univ fun c : Dev nD => bigSep oth fun j => (dutyTok ER (bar c) 0 j : sProp 𝕄))
      = bigSep Finset.univ fun c : Dev nD => bigSep oth fun j => dutyTok ER (bar (pe c j)) 0 (ng j) := by
    rw [bigSep_congr fun c _ => bigSep_ng (fun j => (dutyTok ER (bar c) 0 j : sProp 𝕄))]
    exact bigSep_pe fun c j => dutyTok ER (bar c) 0 (ng j)
  have hl : (bigSep (barToks ∪ copyToks) fun x => (dutyTok ER x.1 x.2.1 x.2.2 : sProp 𝕄))
      = iprop((bigSep Finset.univ fun c : Dev nD => bigSep oth fun j => dutyTok ER (bar c) 0 j)
        ∗ bigSep Finset.univ fun c : Dev nD => bigSep Finset.univ fun k : Fin 4 => bigSep oth fun j => dutyTok ER (cell k c j) 0 0) := by
    rw [BI.bigSep_union toks_apart, bigSep_map, bigSep_map, SparseCore.bigSep_product, SparseCore.bigSep_product, bigSep_univ_prod]; rfl
  have hr : ∀ c : Dev nD, (bigSep oth (toks c) : sProp 𝕄)
      = iprop((bigSep oth fun j => dutyTok ER (bar (pe c j)) 0 (ng j))
        ∗ ((bigSep oth fun j => dutyTok ER (cell 0 c j) 0 0) ∗ (bigSep oth fun j => dutyTok ER (cell 1 (pe c j) j) 0 0))
        ∗ ((bigSep oth fun j => dutyTok ER (cell 2 c j) 0 0) ∗ (bigSep oth fun j => dutyTok ER (cell 3 (pe c j) j) 0 0))) := fun c => by
    unfold toks; rw [bigSep_sep', bigSep_sep', bigSep_sep', bigSep_sep']
  rw [hl, bigSep_congr fun c _ => h4 c, bigSep_congr (Ψ := fun c => _) fun c _ => hr c, bigSep_sep', bigSep_sep', bigSep_sep', bigSep_sep', bigSep_sep',
    bigSep_sep', bigSep_sep', hb, bigSep_pe fun c j => dutyTok ER (cell 1 c j) 0 0, bigSep_pe fun c j => dutyTok ER (cell 3 c j) 0 0]
  exact congrArg _ (sep_flat _ _ _).symm

/-! ### The credit the launch deals -/

/-- What all devices together owe a cell: counted. -/
theorem owed_bar (c : Dev nD) : ∑ d : Dev nD, O₀ d (bar c) () = 7 := by
  have h : ∀ d : Dev nD, O₀ d (bar c) () = ∑ j ∈ oth, if c = pe d j then 1 else 0 := fun d => by
    unfold O₀ owe
    simp only [Pi.add_apply, Finsupp.add_apply, Finset.sum_apply, Finsupp.finset_sum_apply, tallyAt_apply, and_true]
    rw [Finset.sum_eq_zero (f := fun j => if bar c = cell 1 (pe d j) j then N else 0) fun j _ => if_neg fun e => bar_ne_cell _ _ _ _ e,
      Finset.sum_eq_zero (f := fun j => if bar c = cell 3 (pe d j) j then N else 0) fun j _ => if_neg fun e => bar_ne_cell _ _ _ _ e,
      Nat.add_zero, Nat.add_zero]
    refine Finset.sum_congr rfl fun j _ => ?_
    by_cases e : c = pe d j
    · rw [if_pos e, if_pos (congrArg bar e)]
    · rw [if_neg e, if_neg fun h => e (bar_inj h)]
  rw [Finset.sum_congr rfl fun d _ => h d]
  clear h; revert c; decide

theorem sum_cell (k k' : Fin 4) (c d : Dev nD) (j : Fin 8) :
    (∑ i ∈ oth, if cell k c j = cell k' (pe d i) i then N else 0) = N * ∑ i ∈ oth, if k = k' ∧ c = pe d i ∧ j = i then 1 else 0 := by
  rw [Finset.mul_sum]
  refine Finset.sum_congr rfl fun i _ => ?_
  by_cases e : k = k' ∧ c = pe d i ∧ j = i
  · obtain ⟨rfl, rfl, rfl⟩ := e
    rw [if_pos rfl, if_pos ⟨rfl, rfl, rfl⟩, Nat.mul_one]
  · rw [if_neg e, if_neg fun h => e (cell_inj h), Nat.mul_zero]

theorem owed_cell (k : Fin 4) (c : Dev nD) (j : Fin 8) (hk : k = 1 ∨ k = 3) (hj : j ≠ 0) : ∑ d : Dev nD, O₀ d (cell k c j) () = N := by
  have h : ∀ d : Dev nD, O₀ d (cell k c j) () = N * ∑ i ∈ oth, ((if k = 1 ∧ c = pe d i ∧ j = i then 1 else 0) + if k = 3 ∧ c = pe d i ∧ j = i then 1 else 0) := fun d => by
    unfold O₀ owe
    simp only [Pi.add_apply, Finsupp.add_apply, Finset.sum_apply, Finsupp.finset_sum_apply, tallyAt_apply, and_true]
    rw [Finset.sum_eq_zero (f := fun i => if cell k c j = bar (pe d i) then 1 else 0) fun i _ => if_neg fun e => bar_ne_cell _ _ _ _ e.symm,
      Nat.zero_add, sum_cell, sum_cell, Finset.sum_add_distrib, Nat.mul_add]
  rw [Finset.sum_congr rfl fun d _ => h d, ← Finset.mul_sum]
  refine (congrArg (N * ·) (?_ : _ = 1)).trans (Nat.mul_one N)
  clear h; revert k c j; decide

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

def semEmb : Fin 4 × Fin 8 ↪ SemLoc sig := ⟨osem, fun x y h => by
  obtain ⟨hk, hj⟩ := own_inj _ _ _ _ (SemLoc.dma.inj h); exact Prod.ext hk hj⟩

theorem reg_ne_dma (d : DmaSem sig) : SemLoc.reg barS ≠ SemLoc.dma d := nofun
theorem drop_all (X : sProp 𝕄) : X ⊢ (iprop(emp) : sProp 𝕄) := by
  iintro -; iempintro

theorem creds (c : Dev nD) : (Pipeline.launchCred O₀ c : sProp 𝕄)
    ⊢ iprop(cred (tallyAt (bar c) () 7) ∗ bigSep Finset.univ (credOf c 1) ∗ bigSep Finset.univ (credOf c 3)) := by
  have ho (k : Fin 4) (hk : k = 1 ∨ k = 3) :
      (bigSep Finset.univ fun j : Fin 8 => (cred (tallyOn (cell k c j) (launchCredit (Pipeline.owing O₀) 0 (cell k c j))) : sProp 𝕄))
        ⊢ bigSep Finset.univ (credOf c k) := bigSep_mono fun j _ => by
    unfold credOf
    by_cases hj : j = 0
    · rw [if_pos hj]; exact drop_all _
    · rw [if_neg hj, launch_at _ _ (owed_cell k c j hk hj)]; exact BI.Entails.refl _
  have hsub : (Finset.univ.map semEmb : Finset (SemLoc sig)) ⊆ Finset.univ.erase (SemLoc.reg barS) := fun s hs => by
    obtain ⟨x, -, rfl⟩ := Finset.mem_map.mp hs
    exact Finset.mem_erase.mpr ⟨fun h => reg_ne_dma _ h.symm, Finset.mem_univ _⟩
  have hs : (bigSep (Finset.univ.erase (SemLoc.reg barS)) fun sm : SemLoc sig =>
        (cred (tallyOn ((c.tc : Thread nD τ), sm) (launchCredit (Pipeline.owing O₀) 0 ((c.tc : Thread nD τ), sm))) : sProp 𝕄))
      ⊢ bigSep Finset.univ fun k : Fin 4 => bigSep Finset.univ fun j : Fin 8 =>
        cred (tallyOn (cell k c j) (launchCredit (Pipeline.owing O₀) 0 (cell k c j))) :=
    (BI.bigSep_subset hsub).trans (of_eq (by rw [bigSep_map, bigSep_univ_prod]; rfl))
  unfold Pipeline.launchCred
  rw [bigSep_univ_at _ (SemLoc.reg barS), launch_at (bar c) 7 (owed_bar c)]
  iintro ⟨Hb, H⟩
  isplitl [Hb]; · iexact Hb
  ihave H := hs $$ H
  ihave H := (of_eq (four (F := F) _)) $$ H
  icases H with ⟨-, H1, -, H3⟩
  isplitl [H1]
  · iapply (ho 1 (.inl rfl)) $$ H1
  · iapply (ho 3 (.inr rfl)) $$ H3

/-! ### The global step -/

def u₀ : UU :=
  (initOf (Pipeline.cells (Pipeline.pin (pcfgs (F := F)) adm) cellOf_inj) (Pipeline.launchToks (Pipeline.pin (pcfgs (F := F)) adm) cellOf_inj),
    launchOf barCells copyCells (barToks ∪ copyToks))

/-- The exchange's launch element, kept whole on device 0 until it is dealt. -/
def G (c : Dev nD) : sProp 𝕄 := if c = 0 then BI.own (ER (launchOf barCells copyCells (barToks ∪ copyToks))) else iprop(emp)
theorem G_all : bigSep Finset.univ (G (F := F)) = BI.own (ER (launchOf barCells copyCells (barToks ∪ copyToks))) := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G; rw [if_pos rfl]
  exact emp_right _

/-- A device's part of the launch that is not the exchange's ghost state. -/
def bundle (c : Dev nD) : sProp 𝕄 :=
  iprop((∃ r, prngReg c r) ∗ Owes c (O₀ c) ∗ cred (tallyAt (bar c) () 7) ∗ bigSep Finset.univ (credOf c 1) ∗ bigSep Finset.univ (credOf c 3))
/-- A device's own part of the exchange's ghost state. -/
def deal (c : Dev nD) : sProp 𝕄 :=
  iprop(bigSep oth (toks c) ∗ atPos ER (bar c) 0 ∅ 0 ∗ bigSep Finset.univ fun k : Fin 4 => bigSep oth fun j => openTok ER (cell k c j))

theorem ride_intro (K : GSem nD τ sig → ℕ) (c : Dev nD) :
    iprop((invs (PP m) K ∗ bigSep Finset.univ fun d : Dev nD => reached ER (bar d) 0) ∗ (deal c ∗ bundle c)) ⊢ ride m 0 c := by
  show _ ⊢ iprop((∃ r, prngReg c r) ∗ Tk m c ∗ Owes c (O₀ c))
  unfold deal bundle Tk
  iintro ⟨#HR, ⟨Ht, Ha, Ho⟩, Hp, HO, H7, H1, H3⟩
  isplitl [Hp]; · iexact Hp
  isplitr [HO]
  · isplitr; · iexists K; iexact HR
    isplitl [Ht]; · iexact Ht
    isplitl [H7]; · iexact H7
    isplitl [Ha]; · iexact Ha
    isplitl [Ho]; · iexact Ho
    isplitl [H1] <;> iassumption
  iexact HO

theorem bar_sem (c : Dev nD) : (unscopedSems0 c : sProp 𝕄) = semVal (bar c) 0 := by
  unfold unscopedSems0
  rw [show (Finset.univ.filter fun sm : SemLoc sig => ¬ sm.isScoped .tc) = {SemLoc.reg barS} from by decide, BI.bigSep_singleton]

theorem init : iprop((bigSep Finset.univ fun c : Dev nD => iprop(unscopedSems0 c ∗ owes (c : Thread nD τ) (O₀ c) ∅ ∗ Pipeline.launchCred O₀ c
      ∗ prngReg c (ρ c) ∗ G c)) ∗ levAts L lv)
    ⊢ (|={Set.univ}=> bigSep Finset.univ (ride m 0) : sProp 𝕄) := by
  have hcore (c : Dev nD) : iprop(unscopedSems0 c ∗ owes (c : Thread nD τ) (O₀ c) ∅ ∗ Pipeline.launchCred O₀ c ∗ prngReg c (ρ c) ∗ G c)
      ⊢ (iprop(bundle c ∗ (semVal (bar c) 0 ∗ G c)) : sProp 𝕄) := by
    rw [bar_sem]
    unfold bundle Owes
    iintro ⟨Hs, HO, Hc, Hp, HG⟩
    ihave Hc := (creds (F := F) c) $$ Hc
    isplitr [Hs HG]
    · isplitl [Hp]; · iexists (ρ c); iexact Hp
      isplitl [HO]; · iexists ∅; iexact HO
      iexact Hc
    isplitl [Hs] <;> iassumption
  have hv : bigSep Finset.univ (fun c : Dev nD => (semVal (bar c) 0 : sProp 𝕄)) = bigSep barCells (fun g => (semVal g 0 : sProp 𝕄)) := by
    rw [bigSep_map]; rfl
  have ha : bigSep barCells (fun g => (atPos ER g 0 ∅ 0 : sProp 𝕄)) = bigSep Finset.univ (fun c : Dev nD => (atPos ER (bar c) 0 ∅ 0 : sProp 𝕄)) := by
    rw [bigSep_map]; rfl
  have hr : bigSep barCells (fun g => (reached ER g 0 : sProp 𝕄)) = bigSep Finset.univ (fun c : Dev nD => (reached ER (bar c) 0 : sProp 𝕄)) := by
    rw [bigSep_map]; rfl
  iintro ⟨H, -⟩
  ihave H := (show (bigSep Finset.univ fun c : Dev nD => iprop(unscopedSems0 c ∗ owes (c : Thread nD τ) (O₀ c) ∅ ∗ Pipeline.launchCred O₀ c
        ∗ prngReg c (ρ c) ∗ G c)) ⊢ (bigSep Finset.univ fun c : Dev nD => iprop(bundle c ∗ (semVal (bar c) 0 ∗ G c)) : sProp 𝕄)
      from bigSep_mono fun c _ => hcore c) $$ H
  icases bigSep_unpair $$ H with ⟨HB, H⟩
  icases bigSep_unpair $$ H with ⟨Hv, HG⟩
  ihave Hu := (of_eq (G_all (F := F))) $$ HG
  imod (Rounds.fund_launch ER (Rd (F := F) (PP m)) cells_apart (fun g _ h => h) (barToks ∪ copyToks)) $$ [Hv Hu] with ⟨%K, -, Hinv, Hr, Ha, Ho, Ht⟩
  · isplitl [Hv]
    · iapply (of_eq hv) $$ Hv
    · iexact Hu
  ihave #Hinv := (of_eq (invs_eq (PP m) K)) $$ Hinv
  ihave #Hr := (of_eq hr) $$ Hr
  imodintro
  iapply (bigSep_with_persistent (R := iprop(invs (PP m) K ∗ bigSep Finset.univ fun d : Dev nD => reached ER (bar d) 0))
    (Φ := fun c => iprop(deal c ∗ bundle c)) fun c _ => ride_intro m K c)
  isplitr
  · isplitr; · iexact Hinv
    iexact Hr
  iapply bigSep_pair
  isplitr [HB]
  · unfold deal
    iapply bigSep_pair; isplitl [Ht]; · iapply (of_eq (toks_eq (F := F))) $$ Ht
    iapply bigSep_pair; isplitl [Ha]; · iapply (of_eq ha) $$ Ha
    iapply (of_eq (open_eq (F := F))) $$ Ho
  · iexact HB

/-! ## The run -/

theorem unscoped_only : ∀ sm : SemLoc sig, sm.isScoped .tc = false → sm = .reg barS := by decide

/-- What a final state is to say of device `c`. -/
def QY (c : Dev nD) (s : MemSt nD τ sig (Elt F)) : Prop :=
  (s.mem ((c.tc : Thread nD τ).loc main_v15) = outOf (PP m) ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)) ∧ s.sem (bar c) = 0

theorem arg_end (c : Dev nD) (r : Ref sig .tc) (h : r ≠ main_v15) (h' : r ∉ hostOps0_W) : Vend m c r = m ((c.tc : Thread nD τ).loc r) :=
  (Vend_of m c r h).trans (V1_of m c r h')

theorem fin_ok (c : Dev nD) (s' : Phys nD τ sig (Elt F)) :
    iprop((StableHlo.held (c : Thread nD τ) (Pipeline.ucRefs τ sig) (Vend m c) ∗ semVal (bar c) 0) ∗ SI s')
      ⊢ (|={Set.univ}=> iprop(⌜QY m c s'.mem⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (Vend m c) s') $$ [Hh HSI]
  · isplitl [Hh] <;> iassumption
  icases Hr with ⟨%h, HSI⟩
  imodintro
  isplitr
  · ipureintro
    have at_ (r : Ref sig .tc) (hr : (Proc.devRef (τ := τ) .tc r) ∈ Pipeline.ucRefs τ sig) := h (Proc.devRef .tc r) hr
    exact ⟨⟨(h (Proc.devRef .tc main_v15) (Finset.mem_filter.mpr ⟨StableHlo.devRef_mem_tcRefs main_v15, by decide⟩)).trans (Vend_out m c),
      (h (Proc.devRef .tc main_arg0) (Finset.mem_filter.mpr ⟨StableHlo.devRef_mem_tcRefs main_arg0, by decide⟩)).trans (arg_end m c main_arg0 (by decide) (by decide)),
      (h (Proc.devRef .tc main_arg1) (Finset.mem_filter.mpr ⟨StableHlo.devRef_mem_tcRefs main_arg1, by decide⟩)).trans (arg_end m c main_arg1 (by decide) (by decide)),
      (h (Proc.devRef .tc main_arg2) (Finset.mem_filter.mpr ⟨StableHlo.devRef_mem_tcRefs main_arg2, by decide⟩)).trans (arg_end m c main_arg2 (by decide) (by decide)),
      (h (Proc.devRef .tc main_arg3) (Finset.mem_filter.mpr ⟨StableHlo.devRef_mem_tcRefs main_arg3, by decide⟩)).trans (arg_end m c main_arg3 (by decide) (by decide)),
      (h (Proc.devRef .tc main_arg4) (Finset.mem_filter.mpr ⟨StableHlo.devRef_mem_tcRefs main_arg4, by decide⟩)).trans (arg_end m c main_arg4 (by decide) (by decide))⟩,
      by simpa using hb⟩
  · iexact HSI

set_option backward.isDefEq.respectTransparency.types false in
/-- From any memory with all counters at zero, every weakly fair execution of the program on the eight devices ends, with every
    device's arguments as launched, its result the sum of all devices' partial products, and every counter at zero. -/
theorem run_main : θ_run defs (onTc (τ := τ) (main (F := F))) ⟨m, fun _ => 0, ρ⟩
    (fun r => (∀ c : Dev nD, r.2.mem ((c.tc : Thread nD τ).loc main_v15) = outOf (PP m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine Pipeline.θ_run_regions_kit_dev_sems (pcfgs (F := F)) adm (pdats m) () cellOf_inj EP defs₀ 𝒱₀ L lv m ρ main
    (segs m 𝒱₀ L lv (ride m) () (pdats m) (reg0 m))
    (fun c Q => by
      rewrite [main_chain c, Pipeline.Seg.run_eq_chain,
        show (segs m 𝒱₀ L lv (ride m) () (pdats m) (reg0 m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      icases (ownU_pair _ _) $$ Hu with ⟨HP, HX⟩
      imodintro
      isplitl [HP]; · iexact HP
      rw [G_all]; iexact HX)
    (T₀ := fun c => iprop(StableHlo.held (c : Thread nD τ) (Pipeline.ucRefs τ sig) (V0 m c) ∗ ride m 0 c))
    (Tₙ := fun c => iprop(StableHlo.held (c : Thread nD τ) (Pipeline.ucRefs τ sig) (Vend m c) ∗ semVal (bar c) 0))
    (hch := fun c => ⟨.rfl, reg0_pre m c, (reg0_post m c).trans ?_⟩)
    (hinit := ?_) (QY := QY m) (hfin := fun c s' => fin_ok m c s')
    (hQ := fun s h hs => ⟨fun c => (h c).1, sem_eq_zero hs fun c sm hsm => by
        obtain rfl := unscoped_only sm hsm
        exact (h c).2⟩)
  · show iprop(StableHlo.held (c : Thread nD τ) (Pipeline.ucRefs τ sig) (Vend m c) ∗ (semVal (bar c) 0 ∗ Owes c 0))
      ⊢ iprop((StableHlo.held (c : Thread nD τ) (Pipeline.ucRefs τ sig) (Vend m c) ∗ semVal (bar c) 0)
        ∗ ∃ W, owes (c : Thread nD τ) (0 : CellTallies nD τ sig Unit) W)
    unfold Owes
    iintro ⟨Hh, Hb, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    icases hsplit $$ H with ⟨Hh, Hr⟩
    imod (init m ρ) $$ [Hr Hla] with HE
    · isplitl [Hr]; · iexact Hr
      iexact Hla
    imodintro
    rw [bigSep_sep']
    isplitl [Hh]; · iexact Hh
    iexact HE

end Cert.Exchange
-- ==== Proof.Frames.lean ====
/-
The frames: each program ends with its arguments as they were and every counter at zero.
-/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.Exchange

open Idealize.ShloMosaic Idealize.SL.Sem

/-- Over any float values the exchange keeps its arguments and ends quiescent. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).2, h.2⟩) (run_main m ρ)

theorem frame_kernelIdeal : Cert.quiescent_KernelIdeal := fun m ρ _ => frame_any m ρ

/-- The kernel as printed has the same text as its idealization: first the table of bodies, -/
theorem bodies_same {F : FTy → Type} [FloatOps F] : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl

/-- then the table with the kernel call's pipeline. -/
theorem defs_same {F : FTy → Type} [FloatOps F] : Cert.Kernel.defs (F := F) = Cert.KernelIdeal.defs (F := F) :=
  congrArg (Pipeline.defs (Cert.KernelIdeal.pcfgs (F := F))) bodies_same

/-- So the run over any float values is the printed kernel's run too. -/
theorem frame_kernel : Cert.quiescent_Kernel := by
  intro m ρ _
  rw [defs_same]
  exact frame_any (F := Bits) m ρ

/-- The reference is a straight-line host program that declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Exchange
-- ==== Proof.Slices.lean ====
/-
The columns of the query projection and the rows of the output projection a device works with: what the host program
cuts out of the whole weights for it.
-/
module

public import proofs.«01_k».proof.Proof.Region
public import Idealize.ShloMosaic.Lib.DynamicIndex
public import Idealize.ShloMosaic.Lib.StableHlo.RunRead
public import Idealize.ShloMosaic.Lib.ValueLayout

@[expose] public section

noncomputable section

namespace Cert.Exchange

open Cert.KernelIdeal Cert.KernelIdeal.Gen

open Idealize.ShloMosaic hiding ix1 ix2 ix3 ix4
open Idealize.ShloMosaic.TcCoe
open Idealize.ShloMosaic.ValueIdx
open Idealize.ShloMosaic.StableHlo

variable {F : FTy → Type} [FloatOps F]

variable (m : (ℓ : Loc nD τ sig) → Buf (Elt F) ℓ)

/-- Where device `c`'s share starts, as the host program computes it. -/
def startWord (c : Dev nD) : IVec S_ 32 :=
  let v5 : IVec S_ 32 := muli (Host.remui (Host.divui (constantI S_ 32 (Dev.word c)) (constantI S_ 32 1#32)) (constantI S_ 32 8#32)) (constantI S_ 32 256#32)
  select (cmpi .slt v5 (constantI S_ 32 0#32)) (addi v5 (constantI S_ 32 2048#32)) v5

theorem startWord_val (c : Dev nD) (i : S_.Idx) : (startWord c i).toInt = ((256 * c.val : ℕ) : ℤ) := by
  have h : ∀ d : Dev nD, (startWord d (Shape.Idx.first h_S_)).toInt = ((256 * d.val : ℕ) : ℤ) := by decide +kernel
  rw [show i = Shape.Idx.first h_S_ from funext fun a => a.elim0]
  exact h c

theorem columns_term (c : Dev nD) : V1 m c main_v9
    = Host.dynamicSlice S512x256 (m ((c.tc : Thread nD τ).loc main_arg1))
        (fun k => ((![constantI S_ 32 0#32, startWord c] : Fin 2 → IVec S_ 32) k (Shape.Idx.first h_S_)).toInt) sliceFits_S512x2048_S512x256 := by
  show StableHlo.after (hostOps0 c) (V0 m c) _ = _
  after_results_simp
  refine congrArg (fun st => Host.dynamicSlice _ _ st _) (funext fun k => ?_)
  match k with
  | ⟨0, _⟩ =>
    dsimp only [Fin.zero_eta, Fin.mk_one, Matrix.cons_val_zero, Matrix.cons_val_one]
    after_results_simp
    try simp only [id_eq, startWord]
    exact congrArg (fun v : IVec S_ 32 => (v (Shape.Idx.first h_S_)).toInt) (cast_eq (α := IVec S_ 32) rfl _)
  | ⟨1, _⟩ =>
    dsimp only [Fin.zero_eta, Fin.mk_one, Matrix.cons_val_zero, Matrix.cons_val_one]
    after_results_simp
    try simp only [id_eq, startWord]
    exact congrArg (fun v : IVec S_ 32 => (v (Shape.Idx.first h_S_)).toInt) (cast_eq (α := IVec S_ 32) rfl _)

theorem rows_term (c : Dev nD) : V1 m c main_v14
    = Host.dynamicSlice S256x512 (m ((c.tc : Thread nD τ).loc main_arg4))
        (fun k => ((![startWord c, constantI S_ 32 0#32] : Fin 2 → IVec S_ 32) k (Shape.Idx.first h_S_)).toInt) sliceFits_S2048x512_S256x512 := by
  show StableHlo.after (hostOps0 c) (V0 m c) _ = _
  after_results_simp
  refine congrArg (fun st => Host.dynamicSlice _ _ st _) (funext fun k => ?_)
  match k with
  | ⟨0, _⟩ =>
    dsimp only [Fin.zero_eta, Fin.mk_one, Matrix.cons_val_zero, Matrix.cons_val_one]
    after_results_simp
    try simp only [id_eq, startWord]
    exact congrArg (fun v : IVec S_ 32 => (v (Shape.Idx.first h_S_)).toInt) (cast_eq (α := IVec S_ 32) rfl _)
  | ⟨1, _⟩ =>
    dsimp only [Fin.zero_eta, Fin.mk_one, Matrix.cons_val_zero, Matrix.cons_val_one]
    after_results_simp
    try simp only [id_eq, startWord]
    exact congrArg (fun v : IVec S_ 32 => (v (Shape.Idx.first h_S_)).toInt) (cast_eq (α := IVec S_ 32) rfl _)

/-- Column `n` of device `c`'s query projection is column `256 c + n` of the whole. -/
theorem columns_apply (c : Dev nD) (k : Fin 512) (n : Fin 256) (n' : Fin 2048) (hn : n'.val = 256 * c.val + n.val) :
    (V1 m c main_v9 : Vec F S512x256 .f32) (ix2 k n) = (m ((c.tc : Thread nD τ).loc main_arg1) : Vec F S512x2048 .f32) (ix2 k n') := by
  have hc : c.val < 8 := c.isLt
  have hoff : S512x2048.Slices ![0, 256 * c.val] S512x256 := ⟨rfl, fun a => by
    match a with
    | ⟨0, _⟩ => exact Nat.le_refl 512
    | ⟨1, _⟩ => show 256 * c.val + 256 ≤ 2048; omega⟩
  rw [columns_term]
  refine (congrFun (Host.dynamicSlice_eq_extractStridedSlice _ _ _ _ _ hoff ?_) _).trans (slice2_axis1_apply _ _ hoff k n n' hn)
  intro a
  match a with
  | ⟨0, _⟩ => rfl
  | ⟨1, _⟩ => exact startWord_val c _

/-- Row `r` of device `c`'s output projection is row `256 c + r` of the whole. -/
theorem rows_apply (c : Dev nD) (r : Fin 256) (n : Fin 512) (r' : Fin 2048) (hr : r'.val = 256 * c.val + r.val) :
    (V1 m c main_v14 : Vec F S256x512 .f32) (ix2 r n) = (m ((c.tc : Thread nD τ).loc main_arg4) : Vec F S2048x512 .f32) (ix2 r' n) := by
  have hc : c.val < 8 := c.isLt
  have hoff : S2048x512.Slices ![256 * c.val, 0] S256x512 := ⟨rfl, fun a => by
    match a with
    | ⟨0, _⟩ => show 256 * c.val + 256 ≤ 2048; omega
    | ⟨1, _⟩ => exact Nat.le_refl 512⟩
  rw [rows_term]
  refine (congrFun (Host.dynamicSlice_eq_extractStridedSlice _ _ _ _ _ hoff ?_) _).trans (extractStridedSlice_apply _ _ hoff _ (ix2 r' n) ?_)
  · intro a
    match a with
    | ⟨0, _⟩ => exact startWord_val c _
    | ⟨1, _⟩ => rfl
  · intro a
    match a with
    | ⟨0, _⟩ => exact hr
    | ⟨1, _⟩ => exact (Nat.zero_add _).symm

end Cert.Exchange
-- ==== Proof.Attend.lean ====
/-
Attention over the extended reals, as plain functions of rows and columns, and the body's pieces read as those:
a head (`headOf_apply`), one batch of a device's partial product (`halfOf_apply`), and the partial product (`partOf_apply`).
-/
module

public import proofs.«01_k».proof.Proof.Values
public import Idealize.ShloMosaic.Lib.KernelVsHost
public import Idealize.ShloMosaic.Lib.MatmulPlain
public import Idealize.ShloMosaic.Lib.ValueLayout
public import Idealize.ShloMosaic.Lib.ValueLayoutCasts
public import Idealize.ShloMosaic.Lib.IdealHost

@[expose] public section

noncomputable section

namespace Cert.Exchange

open Cert.KernelIdeal Cert.KernelIdeal.Gen

open Idealize.ShloMosaic hiding ix1 ix2 ix3 ix4 truncf_apply extf_apply
open Idealize.ShloMosaic.TcCoe
open Idealize.ShloMosaic.ValueIdx
open scoped BigOperators

/-! ## Attention, row by row -/

/-- The maximum of a row, from minus infinity. -/
def top (r : Fin 256 → EReal) : EReal :=
  (Finset.univ : Finset (Fin 256)).fold max (FloatOps.ofBits (F := Ideal) .f32 0xFF800000#32) r

/-- The weight of column `j` in a row. -/
def wt (r : Fin 256 → EReal) (j : Fin 256) : EReal := Ideal.div (Ideal.exp (r j - top r)) (∑ k : Fin 256, Ideal.exp (r k - top r))

/-- Whether query `i` attends to key `j`. -/
def keep (i j : Fin 256) : BitVec 1 := k0_pay1 (ix2 i j)

/-- Row `i` of the scores: query `q` against keys `K`, scaled and masked. -/
def line (i : Fin 256) (q : Fin 64 → EReal) (K : Fin 256 → Fin 64 → EReal) (j : Fin 256) : EReal :=
  Scalar.select (keep i j) ((∑ d : Fin 64, q d * K j d) * Ideal.ofBits .f32 0x3E000000#32) (Ideal.ofBits .f32 0xCE6E6B28#32)

/-- Row `i` of a head's result. -/
def attn (i : Fin 256) (q : Fin 64 → EReal) (K V : Fin 256 → Fin 64 → EReal) (d : Fin 64) : EReal :=
  ∑ j : Fin 256, wt (line i q K) j * V j d

/-! ## Products over one axis -/

/-- A sum over a one-axis contraction is a sum over its extent. -/
theorem contr_sum {sl sr so : Shape} (D : DotDims sl sr so) (n : ℕ) (hr : D.contr.rank = 1) (hs : D.contr.size ⟨0, by omega⟩ = n)
    (l : sl.Idx → EReal) (r : sr.Idx → EReal) (j : so.Idx) (L : Fin n → sl.Idx) (R : Fin n → sr.Idx)
    (hL : ∀ (k : Fin n) (q : D.contr.Idx), (q ⟨0, by omega⟩).val = k.val → D.lhsIdx j q = L k)
    (hR : ∀ (k : Fin n) (q : D.contr.Idx), (q ⟨0, by omega⟩).val = k.val → D.rhsIdx j q = R k) :
    (∑ q : D.contr.Idx, l (D.lhsIdx j q) * r (D.rhsIdx j q)) = ∑ k : Fin n, l (L k) * r (R k) := by
  rw [← Equiv.sum_comp (contrEquiv1 D n hr hs).symm]
  refine Finset.sum_congr rfl fun k _ => ?_
  have hk := contrEquiv1_symm_val D n hr hs k
  rw [hL k _ hk, hR k _ hk]

theorem proj_apply (l : FVec Ideal S256x512 .f32) (r : FVec Ideal S512x256 .f32) (i n : Fin 256) :
    matmul dot_S256x512_S512x256_S256x256_1_0_0_1_n_n none l r (constant S256x256 .f32 0x00000000#32) (ix2 i n)
      = ∑ k : Fin 512, l (ix2 i k) * r (ix2 k n) := by
  refine (Ideal.matmul_constant_zero_apply _ _ _ _ _).trans (contr_sum _ 512 rfl rfl _ _ _ (fun k => ix2 i k) (fun k => ix2 k n) ?_ ?_)
  · intro k q hq; funext a; apply Fin.ext
    match a with
    | ⟨0, _⟩ => rfl
    | ⟨1, _⟩ => exact hq
  · intro k q hq; funext a; apply Fin.ext
    match a with
    | ⟨0, _⟩ => exact hq
    | ⟨1, _⟩ => rfl

theorem qk_apply (l r : FVec Ideal S256x64 .f32) (i j : Fin 256) :
    matmul dot_S256x64_S256x64_S256x256_1_1_0_0_n_n none l r (constant S256x256 .f32 0x00000000#32) (ix2 i j)
      = ∑ d : Fin 64, l (ix2 i d) * r (ix2 j d) := by
  refine (Ideal.matmul_constant_zero_apply _ _ _ _ _).trans (contr_sum _ 64 rfl rfl _ _ _ (fun k => ix2 i k) (fun k => ix2 j k) ?_ ?_)
  · intro k q hq; funext a; apply Fin.ext
    match a with
    | ⟨0, _⟩ => rfl
    | ⟨1, _⟩ => exact hq
  · intro k q hq; funext a; apply Fin.ext
    match a with
    | ⟨0, _⟩ => rfl
    | ⟨1, _⟩ => exact hq

theorem wv_apply (l : FVec Ideal S256x256 .f32) (r : FVec Ideal S256x64 .f32) (i : Fin 256) (d : Fin 64) :
    matmul dot_S256x256_S256x64_S256x64_1_0_0_1_n_n none l r (constant S256x64 .f32 0x00000000#32) (ix2 i d)
      = ∑ j : Fin 256, l (ix2 i j) * r (ix2 j d) := by
  refine (Ideal.matmul_constant_zero_apply _ _ _ _ _).trans (contr_sum _ 256 rfl rfl _ _ _ (fun k => ix2 i k) (fun k => ix2 k d) ?_ ?_)
  · intro k q hq; funext a; apply Fin.ext
    match a with
    | ⟨0, _⟩ => rfl
    | ⟨1, _⟩ => exact hq
  · intro k q hq; funext a; apply Fin.ext
    match a with
    | ⟨0, _⟩ => exact hq
    | ⟨1, _⟩ => rfl

theorem wo_apply (l : FVec Ideal S256x256 .f32) (r : FVec Ideal S256x512 .f32) (i : Fin 256) (n : Fin 512) :
    matmul dot_S256x256_S256x512_S256x512_1_0_0_1_n_n none l r (constant S256x512 .f32 0x00000000#32) (ix2 i n)
      = ∑ k : Fin 256, l (ix2 i k) * r (ix2 k n) := by
  refine (Ideal.matmul_constant_zero_apply _ _ _ _ _).trans (contr_sum _ 256 rfl rfl _ _ _ (fun k => ix2 i k) (fun k => ix2 k n) ?_ ?_)
  · intro k q hq; funext a; apply Fin.ext
    match a with
    | ⟨0, _⟩ => rfl
    | ⟨1, _⟩ => exact hq
  · intro k q hq; funext a; apply Fin.ext
    match a with
    | ⟨0, _⟩ => exact hq
    | ⟨1, _⟩ => rfl

/-! ## A head -/

/-- One value per row, spread over the row. -/
theorem spread_apply (v : FVec Ideal S256 .f32) (i j : Fin 256) :
    broadcastTo S256x256 (shapeCast S256x1 v shapeCasts_S256_S256x1) broadcasts_S256x1_S256x256 (ix2 i j) = v (ix1 i) := by
  refine (broadcastTo_apply _ _ _ (ix2 i (0 : Fin 1)) ?_).trans (shapeCast_a_a1_apply _ _ _ _)
  intro a
  match a with
  | ⟨0, _⟩ => rfl
  | ⟨1, _⟩ => rfl

theorem lift_row (h : S256x256.Reduces [1] S256) (i k : Fin 256) : h.lift (ix1 i) k = ix2 i k := by
  funext a; apply Fin.ext
  match a with
  | ⟨0, _⟩ => rfl
  | ⟨1, _⟩ => rfl

theorem rowMax_apply (s : FVec Ideal S256x256 .f32) (i : Fin 256) :
    (multiReduction .maximumf [1] S256 s 0xFF800000#32 reduces_S256x256_S256 (.inl rfl) rfl : FVec Ideal S256 .f32) (ix1 i)
      = top fun j => s (ix2 i j) := by
  refine (Ideal.multiReduction_maximumf_single _ _ _ _ _ _).trans ?_
  unfold top
  exact congrArg (fun r : Fin 256 → EReal => (Finset.univ : Finset (Fin 256)).fold max (FloatOps.ofBits (F := Ideal) .f32 0xFF800000#32) r)
    (funext fun k => congrArg s (lift_row _ i k))

theorem rowSum_apply (s : FVec Ideal S256x256 .f32) (i : Fin 256) :
    (multiReduction .add [1] S256 s 0x00000000#32 reduces_S256x256_S256 (.inl rfl) rfl : FVec Ideal S256 .f32) (ix1 i)
      = ∑ j : Fin 256, s (ix2 i j) :=
  (Ideal.multiReduction_add_single _ _ _ _ _ _).trans (Finset.sum_congr rfl fun k _ => congrArg s (lift_row _ i k))

theorem soft_apply (s : FVec Ideal S256x256 .f32) (i j : Fin 256) : soft s (ix2 i j) = wt (fun k => s (ix2 i k)) j := by
  have he : ∀ k : Fin 256, (exp (subf s (broadcastTo S256x256 (shapeCast S256x1
      (multiReduction .maximumf [1] S256 s 0xFF800000#32 reduces_S256x256_S256 (.inl rfl) rfl : FVec Ideal S256 .f32) shapeCasts_S256_S256x1)
      broadcasts_S256x1_S256x256)) : FVec Ideal S256x256 .f32) (ix2 i k) = Ideal.exp (s (ix2 i k) - top fun k => s (ix2 i k)) := by
    intro k
    show Ideal.exp (s (ix2 i k) - broadcastTo S256x256 _ _ (ix2 i k)) = _
    rw [spread_apply, rowMax_apply]
  unfold soft wt
  show Ideal.div _ _ = _
  rw [he j, spread_apply, rowSum_apply]
  exact congrArg _ (Finset.sum_congr rfl fun k _ => he k)

theorem scores_apply (q k : FVec Ideal S256x64 .f32) (i j : Fin 256) :
    scores q k (ix2 i j) = line i (fun d => q (ix2 i d)) (fun j d => k (ix2 j d)) j := by
  unfold scores line keep
  rw [select_apply, mulf_apply, qk_apply]
  rfl

theorem headOf_apply (q k v : FVec Ideal S256x64 .f32) (i : Fin 256) (d : Fin 64) :
    headOf q k v (ix2 i d) = attn i (fun d => q (ix2 i d)) (fun j d => k (ix2 j d)) (fun j d => v (ix2 j d)) d := by
  unfold headOf attn
  rw [wv_apply]
  refine Finset.sum_congr rfl fun j _ => ?_
  rw [soft_apply]
  congr 2
  funext l
  exact scores_apply q k i l

/-! ## One batch -/

/-- Column `d` of head `h` among a device's columns. -/
def col (h : Fin 4) (d : Fin 64) : Fin 256 := ⟨64 * h.val + d.val, by omega⟩

theorem flat_apply (k : Vec Ideal S1x256x1x64 .f32) (j : Fin 256) (d : Fin 64) :
    flat k (ix2 j d) = k (ix4 (0 : Fin 1) j (0 : Fin 1) d) :=
  shapeCast_apply _ _ _ _ (by
    rw [Shape.rowMajor_val_four, Shape.rowMajor_val_two]
    show ((0 * 256 + j.val) * 1 + 0) * 64 + d.val = j.val * 64 + d.val
    omega)

theorem projOf_apply (x : Vec Ideal S1x256x512 .f32) (wq : Vec Ideal S512x256 .f32) (i n : Fin 256) :
    projOf x wq (ix2 i n) = ∑ k : Fin 512, x (ix3 (0 : Fin 1) i k) * wq (ix2 k n) := by
  unfold projOf
  rw [proj_apply]
  refine Finset.sum_congr rfl fun k _ => ?_
  rw [shapeCast_1ab_ab_apply, shapeCast_self]

/-- The sum over a device's columns, head by head. -/
theorem sum_cols (f : Fin 256 → EReal) : (∑ k : Fin 256, f k) = ∑ h : Fin 4, ∑ d : Fin 64, f (col h d) := by
  rw [← Equiv.sum_comp (finProdFinEquiv (m := 4) (n := 64)) f, Fintype.sum_prod_type]
  refine Finset.sum_congr rfl fun h _ => Finset.sum_congr rfl fun d _ => congrArg f (Fin.ext ?_)
  show d.val + 64 * h.val = 64 * h.val + d.val
  omega

theorem cat_apply (u : Fin 4 → FVec Ideal S256x64 .f32) (i : Fin 256) (h : Fin 4) (d : Fin 64) :
    (concatenate S256x256 1 [⟨S256x64, u 0⟩, ⟨S256x64, u 1⟩, ⟨S256x64, u 2⟩, ⟨S256x64, u 3⟩]
      concatenates_S256x64_S256x64_S256x64_S256x64_S256x256_d1 : FVec Ideal S256x256 .f32) (ix2 i (col h d)) = u h (ix2 i d) := by
  refine concatenate_ofFn_apply (1 : Fin S256x256.rank) u concatenates_S256x64_S256x64_S256x64_S256x64_S256x256_d1 rfl 64 rfl _ h ?_ _ ?_ ?_
  · show (64 * h.val + d.val) / 64 = h.val; omega
  · show d.val = (64 * h.val + d.val) % 64; omega
  · intro b hb
    match b with
    | ⟨0, _⟩ => rfl
    | ⟨1, _⟩ => exact absurd rfl hb

/-- The query of row `i` for head `h` of a device. -/
def qOf (x : Vec Ideal S1x256x512 .f32) (wq : Vec Ideal S512x256 .f32) (i : Fin 256) (h : Fin 4) (d : Fin 64) : EReal :=
  ∑ k : Fin 512, x (ix3 (0 : Fin 1) i k) * wq (ix2 k (col h d))

theorem halfOf_apply (x : Vec Ideal S1x256x512 .f32) (wq : Vec Ideal S512x256 .f32) (k v : Fin 4 → Vec Ideal S1x256x1x64 .f32)
    (wo : Vec Ideal S256x512 .f32) (i : Fin 256) (n : Fin 512) :
    halfOf x wq k v wo (ix2 i n) = ∑ h : Fin 4, ∑ d : Fin 64,
      attn i (qOf x wq i h) (fun j d => k h (ix4 (0 : Fin 1) j (0 : Fin 1) d)) (fun j d => v h (ix4 (0 : Fin 1) j (0 : Fin 1) d)) d
        * wo (ix2 (col h d) n) := by
  unfold halfOf
  rw [truncf_apply, wo_apply, sum_cols]
  refine Finset.sum_congr rfl fun h _ => Finset.sum_congr rfl fun d _ => ?_
  rw [shapeCast_self]
  congr 1
  let u : Fin 4 → FVec Ideal S256x64 .f32 := fun
    | 0 => headOf (extractStridedSlice S256x64 ![0, 0] (projOf x wq) slices_S256x256_o0_0_S256x64) (flat (k 0)) (flat (v 0))
    | 1 => headOf (extractStridedSlice S256x64 ![0, 64] (projOf x wq) slices_S256x256_o0_64_S256x64) (flat (k 1)) (flat (v 1))
    | 2 => headOf (extractStridedSlice S256x64 ![0, 128] (projOf x wq) slices_S256x256_o0_128_S256x64) (flat (k 2)) (flat (v 2))
    | 3 => headOf (extractStridedSlice S256x64 ![0, 192] (projOf x wq) slices_S256x256_o0_192_S256x64) (flat (k 3)) (flat (v 3))
  refine (cat_apply u i h d).trans ?_
  have hq : ∀ (o : ℕ) (sl : S256x256.Slices ![0, o] S256x64), o = 64 * h.val →
      headOf (extractStridedSlice S256x64 ![0, o] (projOf x wq) sl) (flat (k h)) (flat (v h)) (ix2 i d)
        = attn i (qOf x wq i h) (fun j d => k h (ix4 (0 : Fin 1) j (0 : Fin 1) d)) (fun j d => v h (ix4 (0 : Fin 1) j (0 : Fin 1) d)) d := by
    intro o sl ho
    rw [headOf_apply]
    congr 1
    · funext e
      rw [slice2_axis1_apply o _ sl i e (col h e) (by show 64 * h.val + e.val = o + e.val; omega), projOf_apply]
      rfl
    · funext j e; exact flat_apply _ _ _
    · funext j e; exact flat_apply _ _ _
  match h, hq with
  | 0, hq => exact hq 0 _ rfl
  | 1, hq => exact hq 64 _ rfl
  | 2, hq => exact hq 128 _ rfl
  | 3, hq => exact hq 192 _ rfl

/-! ## A device's partial product -/

theorem partOf_apply (X : Vec Ideal S2x256x512 .f32) (WQ : Vec Ideal S512x256 .f32) (K V : Vec Ideal S2x256x4x64 .f32) (WO : Vec Ideal S256x512 .f32)
    (b : Fin 2) (i : Fin 256) (n : Fin 512) :
    partOf X WQ K V WO (flatIx (ix3 b i n)) = ∑ h : Fin 4, ∑ d : Fin 64,
      attn i (fun d => ∑ k : Fin 512, X (ix3 b i k) * WQ (ix2 k (col h d))) (fun j d => K (ix4 b j h d)) (fun j d => V (ix4 b j h d)) d
        * WO (ix2 (col h d) n) := by
  have hb : batOf (flatIx (ix3 b i n)) = b := Fin.ext (by
    show (256 * b.val + i.val) / 256 = b.val; omega)
  have hi : inBat (flatIx (ix3 b i n)) = ix2 i n := Shape.idx_ext₂
    (by show (256 * b.val + i.val) % 256 = i.val; omega) rfl
  unfold partOf
  rw [hb, hi, halfOf_apply]
  refine Finset.sum_congr rfl fun h _ => Finset.sum_congr rfl fun d _ => ?_
  have hx : ∀ k : Fin 512, xAt X b (ix3 (0 : Fin 1) i k) = X (ix3 b i k) := fun k => congrArg X (by
    funext a; apply Fin.ext
    rw [ValueKit.rect_emb_unit_val]
    match a with
    | ⟨0, _⟩ => rfl
    | ⟨1, _⟩ => exact Nat.zero_add _
    | ⟨2, _⟩ => exact Nat.zero_add _)
  have hk : ∀ (Y : Vec Ideal S2x256x4x64 .f32) (j : Fin 256) (e : Fin 64), kAt Y b h (ix4 (0 : Fin 1) j (0 : Fin 1) e) = Y (ix4 b j h e) :=
    fun Y j e => congrArg Y (by
      funext a; apply Fin.ext
      rw [ValueKit.rect_emb_unit_val]
      match a with
      | ⟨0, _⟩ => rfl
      | ⟨1, _⟩ => exact Nat.zero_add _
      | ⟨2, _⟩ => rfl
      | ⟨3, _⟩ => exact Nat.zero_add _)
  simp only [hk]
  unfold qOf
  simp only [hx]

end Cert.Exchange
-- ==== Proof.RefValue.lean ====
/-
The reference's result read at an index: attention of every head over the whole arrays, as the same functions of rows
and columns the body's pieces are read as, and the output projection of all heads together (`ref_apply`).
-/
module

public import proofs.«01_k».proof.Proof.Attend
public import proofs.«01_k».proof.Proof.Gen.ReferenceIdeal.Run

@[expose] public section

noncomputable section

namespace Cert.Exchange.Whole

open Cert.ReferenceIdeal Cert.ReferenceIdeal.Gen

open Idealize.ShloMosaic hiding ix1 ix2 ix3 ix4 truncf_apply extf_apply
open Idealize.ShloMosaic.TcCoe
open Idealize.ShloMosaic.ValueIdx
open scoped BigOperators

/-! ## The reference's operations, named -/

/-- The mask, queries down and keys across. -/
def mask : IVec S256x256 1 :=
  ori (cmpi .sle (absi (subi (broadcastInDim S256x256 ![0, 1] bcast_S256x1_S256x256_0_1 (broadcastInDim S256x1 ![0] bcast_S256_S256x1_0 (iotaInDim S256 32 0)))
      (broadcastInDim S256x256 ![0, 1] bcast_S1x256_S256x256_0_1 (broadcastInDim S1x256 ![1] bcast_S256_S1x256_1 (iotaInDim S256 32 0)))))
      (broadcastInDim S256x256 ![] bcast_S_S256x256 (constantI S_ 32 128#32)))
    (ori (broadcastInDim S256x256 ![0, 1] bcast_S1x256_S256x256_0_1 (cmpi .slt (broadcastInDim S1x256 ![1] bcast_S256_S1x256_1 (iotaInDim S256 32 0))
        (broadcastInDim S1x256 ![] bcast_S_S1x256 (constantI S_ 32 32#32))))
      (broadcastInDim S256x256 ![0, 1] bcast_S256x1_S256x256_0_1 (cmpi .slt (broadcastInDim S256x1 ![0] bcast_S256_S256x1_0 (iotaInDim S256 32 0))
        (broadcastInDim S256x1 ![] bcast_S_S256x1 (constantI S_ 32 32#32)))))

/-- Which queries attend to any key. -/
def some_key : IVec S256 1 := Host.reduce IntOp.ori mask (constantI S_ 1 0#1) reducesTo_S256x256_S256_d1 h_S_

def queries (x : FVec Ideal S2x256x512 .f32) (wq : FVec Ideal S512x2048 .f32) : FVec Ideal S2x256x32x64 .f32 :=
  shapeCast S2x256x32x64 (Host.dotGeneral dot_S2x256x512_S512x2048_S2x256x2048_2_0_01_1_n_n none x wq : FVec Ideal S2x256x2048 .f32) shapeCasts_S2x256x2048_S2x256x32x64

def scored (q k : FVec Ideal S2x256x32x64 .f32) : FVec Ideal S2x32x256x256 .f32 :=
  select (broadcastInDim S2x32x256x256 ![0, 1, 2, 3] bcast_S1x1x256x256_S2x32x256x256_0_1_2_3 (broadcastInDim S1x1x256x256 ![2, 3] bcast_S256x256_S1x1x256x256_2_3 mask))
    (mulf (Host.dotGeneral dot_S2x256x32x64_S2x256x32x64_S2x32x256x256_3_3_1_1_02_02 none q k)
      (broadcastInDim S2x32x256x256 ![] bcast_S_S2x32x256x256 (constant S_ .f32 0x3E000000#32)))
    (broadcastInDim S2x32x256x256 ![] bcast_S_S2x32x256x256 (id (constant S_ .f32 0xCE6E6B28#32)))

def powers (s : FVec Ideal S2x32x256x256 .f32) : FVec Ideal S2x32x256x256 .f32 :=
  Host.exp (subf s (broadcastInDim S2x32x256x256 ![0, 1, 2, 3] bcast_S2x32x256x1_S2x32x256x256_0_1_2_3
    (broadcastInDim S2x32x256x1 ![0, 1, 2] bcast_S2x32x256_S2x32x256x1_0_1_2
      (Host.reduce FloatOps.maximumf s (constant S_ .f32 0xFF800000#32) reducesTo_S2x32x256x256_S2x32x256_d3 h_S_))))

def weights (s : FVec Ideal S2x32x256x256 .f32) : FVec Ideal S2x32x256x256 .f32 :=
  select (broadcastInDim S2x32x256x256 ![0, 1, 2, 3] bcast_S1x1x256x1_S2x32x256x256_0_1_2_3 (broadcastInDim S1x1x256x1 ![2] bcast_S256_S1x1x256x1_2 some_key))
    (Host.divf (powers s) (broadcastInDim S2x32x256x256 ![0, 1, 2, 3] bcast_S2x32x256x1_S2x32x256x256_0_1_2_3
      (select (broadcastInDim S2x32x256x1 ![0, 1, 2, 3] bcast_S1x1x256x1_S2x32x256x1_0_1_2_3 (broadcastInDim S1x1x256x1 ![2] bcast_S256_S1x1x256x1_2 some_key))
        (broadcastInDim S2x32x256x1 ![0, 1, 2] bcast_S2x32x256_S2x32x256x1_0_1_2
          (Host.reduceAdd (powers s) (constant S_ .f32 0x00000000#32) reducesTo_S2x32x256x256_S2x32x256_d3 h_S_))
        (broadcastInDim S2x32x256x1 ![] bcast_S_S2x32x256x1 (id (constant S_ .f32 0x3F800000#32))))))
    (broadcastInDim S2x32x256x256 ![] bcast_S_S2x32x256x256 (id (constant S_ .f32 0x00000000#32)))

def heads (w : FVec Ideal S2x32x256x256 .f32) (v : FVec Ideal S2x256x32x64 .f32) : FVec Ideal S2x256x2048 .f32 :=
  shapeCast S2x256x2048 (transpose S2x256x32x64 [0, 3, 1, 2]
    (Host.dotGeneral dot_S2x256x32x64_S2x32x256x256_S2x32x64x256_1_3_3_2_02_01 none v w : FVec Ideal S2x32x64x256 .f32)
    transposes_S2x32x64x256_S2x256x32x64_0_3_1_2) shapeCasts_S2x256x32x64_S2x256x2048

/-- The reference's result. -/
def result (x : FVec Ideal S2x256x512 .f32) (wq : FVec Ideal S512x2048 .f32) (k v : FVec Ideal S2x256x32x64 .f32) (wo : FVec Ideal S2048x512 .f32) :
    FVec Ideal S2x256x512 .f32 :=
  Host.dotGeneral dot_S2x256x2048_S2048x512_S2x256x512_2_0_01_1_n_n none (heads (weights (scored (queries x wq) k)) v) wo

set_option maxRecDepth 8192 in
theorem result_eq (m : (ℓ : Loc nD τ sig) → Buf (Elt Ideal) ℓ) (c : Dev nD) :
    Cert.ReferenceIdeal.Value.res_main_v42 m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Cert.ReferenceIdeal.Value.res_main_v42 result heads weights powers scored queries some_key mask
  rfl

/-! ## The mask -/

theorem ori_assoc (a b c : BitVec 1) : IntOp.ori (IntOp.ori a b) c = IntOp.ori a (IntOp.ori b c) := by
  unfold IntOp.ori; exact BitVec.or_assoc _ _ _

theorem down_apply {α : Type} (v : S256.Idx → α) (i j : Fin 256) :
    broadcastInDim S256x256 ![0, 1] bcast_S256x1_S256x256_0_1 (broadcastInDim S256x1 ![0] bcast_S256_S256x1_0 v) (ix2 i j) = v (ix1 i) := by
  refine (broadcastInDim_apply _ _ _ _ (ix2 i (0 : Fin 1)) ?_).trans (broadcastInDim_apply _ _ _ _ (ix1 i) ?_)
  · intro a
    match a with
    | ⟨0, _⟩ => rfl
    | ⟨1, _⟩ => rfl
  · intro a
    match a with
    | ⟨0, _⟩ => rfl

theorem across_apply {α : Type} (v : S256.Idx → α) (i j : Fin 256) :
    broadcastInDim S256x256 ![0, 1] bcast_S1x256_S256x256_0_1 (broadcastInDim S1x256 ![1] bcast_S256_S1x256_1 v) (ix2 i j) = v (ix1 j) := by
  refine (broadcastInDim_apply _ _ _ _ (ix2 (0 : Fin 1) j) ?_).trans (broadcastInDim_apply _ _ _ _ (ix1 j) ?_)
  · intro a
    match a with
    | ⟨0, _⟩ => rfl
    | ⟨1, _⟩ => rfl
  · intro a
    match a with
    | ⟨0, _⟩ => rfl

/-- Keys early enough for every query to attend to. -/
theorem early_apply (i j : Fin 256) :
    broadcastInDim S256x256 ![0, 1] bcast_S1x256_S256x256_0_1 (cmpi .slt (broadcastInDim S1x256 ![1] bcast_S256_S1x256_1 (iotaInDim S256 32 0))
      (broadcastInDim S1x256 ![] bcast_S_S1x256 (constantI S_ 32 32#32))) (ix2 i j) = IntOp.cmpi .slt (BitVec.ofNat 32 j.val) 32#32 :=
  across_apply (cmpi .slt (iotaInDim S256 32 0) (fun _ => 32#32)) i j

theorem late_apply (i j : Fin 256) :
    broadcastInDim S256x256 ![0, 1] bcast_S256x1_S256x256_0_1 (cmpi .slt (broadcastInDim S256x1 ![0] bcast_S256_S256x1_0 (iotaInDim S256 32 0))
      (broadcastInDim S256x1 ![] bcast_S_S256x1 (constantI S_ 32 32#32))) (ix2 i j) = IntOp.cmpi .slt (BitVec.ofNat 32 i.val) 32#32 :=
  down_apply (cmpi .slt (iotaInDim S256 32 0) (fun _ => 32#32)) i j

theorem mask_apply (i j : Fin 256) : mask (ix2 i j) = keep i j := by
  have hk : keep i j = IntOp.ori (IntOp.ori (IntOp.cmpi .sle (IntOp.absi (IntOp.subi (BitVec.ofNat 32 i.val) (BitVec.ofNat 32 j.val))) 128#32)
      (IntOp.cmpi .slt (BitVec.ofNat 32 j.val) 32#32)) (IntOp.cmpi .slt (BitVec.ofNat 32 i.val) 32#32) := by
    unfold keep Cert.KernelIdeal.Gen.k0_pay1
    show IntOp.ori (IntOp.ori (IntOp.cmpi .sle (IntOp.absi (IntOp.subi (iota .tc _ 32 _ _ (ix2 i j)) (iota .tc _ 32 _ _ (ix2 i j)))) _)
      (IntOp.cmpi .slt (iota .tc _ 32 _ _ (ix2 i j)) _)) (IntOp.cmpi .slt (iota .tc _ 32 _ _ (ix2 i j)) _) = _
    rw [show iota .tc Cert.KernelIdeal.S256x256 32 [0] Cert.KernelIdeal.Gen.iota_S256x256_d0_w32 (ix2 i j) = BitVec.ofNat 32 i.val from iota_single_apply _ _ _ _ _ _,
      show iota .tc Cert.KernelIdeal.S256x256 32 [1] Cert.KernelIdeal.Gen.iota_S256x256_d1_w32 (ix2 i j) = BitVec.ofNat 32 j.val from iota_single_apply _ _ _ _ _ _]
    rfl
  rw [hk, ori_assoc, ← early_apply i j, ← late_apply i j]
  unfold mask
  show IntOp.ori (IntOp.cmpi .sle (IntOp.absi (IntOp.subi (broadcastInDim S256x256 _ _ _ (ix2 i j)) (broadcastInDim S256x256 _ _ _ (ix2 i j)))) _) _ = _
  rw [down_apply, across_apply]
  rfl

/-- A chain of `or`s with a 1 among its terms is 1. -/
theorem foldl_ori_one {ι : Type} (f : ι → BitVec 1) : ∀ (l : List ι) (b : BitVec 1), (b = 1#1 ∨ ∃ n ∈ l, f n = 1#1) →
    l.foldl (fun r n => IntOp.ori r (f n)) b = 1#1
  | [], b, h => h.elim id fun ⟨n, hn, _⟩ => nomatch hn
  | a :: l, b, h => by
    have h1 : ∀ x : BitVec 1, IntOp.ori 1#1 x = 1#1 := by decide
    have h2 : ∀ x : BitVec 1, IntOp.ori x 1#1 = 1#1 := by decide
    refine foldl_ori_one f l _ ?_
    rcases h with rfl | ⟨n, hn, e⟩
    · exact .inl (h1 _)
    · rcases List.mem_cons.1 hn with rfl | hn
      · exact .inl (by show IntOp.ori b (f n) = 1#1; rw [e]; exact h2 _)
      · exact .inr ⟨n, hn, e⟩

/-- Every query attends to the first key. -/
theorem some_key_apply (i : Fin 256) : some_key (ix1 i) = 1#1 := by
  unfold some_key
  rw [Host.reduce_eq_foldl]
  refine foldl_ori_one _ _ _ (.inr ⟨ix2 i (0 : Fin 256), List.mem_filter.2 ⟨List.mem_map.2 ⟨S256x256.rowMajor _, List.mem_finRange _, Equiv.symm_apply_apply _ _⟩, ?_⟩, ?_⟩)
  · rw [decide_eq_true_eq]
    funext a
    match a with
    | ⟨0, _⟩ => rfl
  · have h2 : ∀ x : BitVec 1, IntOp.ori x 1#1 = 1#1 := by decide
    have h1 : ∀ x : BitVec 1, IntOp.ori 1#1 x = 1#1 := by decide
    unfold mask
    show IntOp.ori _ (IntOp.ori (broadcastInDim S256x256 _ _ _ (ix2 i 0)) _) = _
    rw [early_apply]
    show IntOp.ori _ (IntOp.ori 1#1 _) = _
    rw [h1, h2]

/-! ## Rows -/

/-- One value per row of a head, spread over the row. -/
theorem spread_apply {α : Type} (v : S2x32x256x1.Idx → α) (b : Fin 2) (H : Fin 32) (i j : Fin 256) :
    broadcastInDim S2x32x256x256 ![0, 1, 2, 3] bcast_S2x32x256x1_S2x32x256x256_0_1_2_3 v (ix4 b H i j) = v (ix4 b H i (0 : Fin 1)) := by
  refine broadcastInDim_apply _ _ _ _ _ ?_
  intro a
  match a with
  | ⟨0, _⟩ => rfl
  | ⟨1, _⟩ => rfl
  | ⟨2, _⟩ => rfl
  | ⟨3, _⟩ => rfl

theorem unit_apply {α : Type} (v : S2x32x256.Idx → α) (b : Fin 2) (H : Fin 32) (i : Fin 256) :
    broadcastInDim S2x32x256x1 ![0, 1, 2] bcast_S2x32x256_S2x32x256x1_0_1_2 v (ix4 b H i (0 : Fin 1)) = v (ix3 b H i) := by
  refine broadcastInDim_apply _ _ _ _ _ ?_
  intro a
  match a with
  | ⟨0, _⟩ => rfl
  | ⟨1, _⟩ => rfl
  | ⟨2, _⟩ => rfl

theorem row_reduces : S2x32x256x256.Reduces [3] S2x32x256 := by decide

theorem lift_row (b : Fin 2) (H : Fin 32) (i k : Fin 256) : row_reduces.lift (ix3 b H i) k = ix4 b H i k := by
  funext a; apply Fin.ext
  match a with
  | ⟨0, _⟩ => rfl
  | ⟨1, _⟩ => rfl
  | ⟨2, _⟩ => rfl
  | ⟨3, _⟩ => rfl

theorem rowMax_apply (s : FVec Ideal S2x32x256x256 .f32) (b : Fin 2) (H : Fin 32) (i : Fin 256) :
    (Host.reduce FloatOps.maximumf s (constant S_ .f32 0xFF800000#32) reducesTo_S2x32x256x256_S2x32x256_d3 h_S_ : FVec Ideal S2x32x256 .f32) (ix3 b H i)
      = top fun j => s (ix4 b H i j) := by
  refine (congrFun (hostReduce_maximumf_eq_multiReduction (φ := .f32) s 0xFF800000#32 reducesTo_S2x32x256x256_S2x32x256_d3 h_S_ row_reduces (.inl rfl) rfl) _).trans ?_
  refine (Ideal.multiReduction_maximumf_single _ _ _ _ _ _).trans ?_
  unfold top
  exact congrArg (fun r : Fin 256 → EReal => (Finset.univ : Finset (Fin 256)).fold max (FloatOps.ofBits (F := Ideal) .f32 0xFF800000#32) r)
    (funext fun k => congrArg s (lift_row b H i k))

theorem powers_apply (s : FVec Ideal S2x32x256x256 .f32) (b : Fin 2) (H : Fin 32) (i j : Fin 256) :
    powers s (ix4 b H i j) = Ideal.exp (s (ix4 b H i j) - top fun k => s (ix4 b H i k)) := by
  unfold powers
  show Ideal.exp (s (ix4 b H i j) - broadcastInDim S2x32x256x256 _ _ _ (ix4 b H i j)) = _
  rw [spread_apply, unit_apply, rowMax_apply]

theorem rowSum_apply (e : FVec Ideal S2x32x256x256 .f32) (b : Fin 2) (H : Fin 32) (i : Fin 256) :
    (Host.reduceAdd e (constant S_ .f32 0x00000000#32) reducesTo_S2x32x256x256_S2x32x256_d3 h_S_ : FVec Ideal S2x32x256 .f32) (ix3 b H i)
      = ∑ j : Fin 256, e (ix4 b H i j) := by
  rw [hostReduceAdd_apply, Ideal.hostReduceAdd_single _ row_reduces]
  show Ideal.ofBits .f32 0x00000000#32 + _ = _
  rw [Ideal.ofBits_zero_f32, zero_add]
  exact Finset.sum_congr rfl fun k _ => congrArg e (lift_row b H i k)

theorem any_apply (b : Fin 2) (H : Fin 32) (i j : Fin 256) :
    broadcastInDim S2x32x256x256 ![0, 1, 2, 3] bcast_S1x1x256x1_S2x32x256x256_0_1_2_3 (broadcastInDim S1x1x256x1 ![2] bcast_S256_S1x1x256x1_2 some_key) (ix4 b H i j) = 1#1 := by
  refine ((broadcastInDim_apply _ _ _ _ (ix4 (0 : Fin 1) (0 : Fin 1) i (0 : Fin 1)) ?_).trans (broadcastInDim_apply _ _ _ _ (ix1 i) ?_)).trans (some_key_apply i)
  · intro a
    match a with
    | ⟨0, _⟩ => rfl
    | ⟨1, _⟩ => rfl
    | ⟨2, _⟩ => rfl
    | ⟨3, _⟩ => rfl
  · intro a
    match a with
    | ⟨0, _⟩ => rfl

theorem any_unit_apply (b : Fin 2) (H : Fin 32) (i : Fin 256) :
    broadcastInDim S2x32x256x1 ![0, 1, 2, 3] bcast_S1x1x256x1_S2x32x256x1_0_1_2_3 (broadcastInDim S1x1x256x1 ![2] bcast_S256_S1x1x256x1_2 some_key) (ix4 b H i (0 : Fin 1)) = 1#1 := by
  refine ((broadcastInDim_apply _ _ _ _ (ix4 (0 : Fin 1) (0 : Fin 1) i (0 : Fin 1)) ?_).trans (broadcastInDim_apply _ _ _ _ (ix1 i) ?_)).trans (some_key_apply i)
  · intro a
    match a with
    | ⟨0, _⟩ => rfl
    | ⟨1, _⟩ => rfl
    | ⟨2, _⟩ => rfl
    | ⟨3, _⟩ => rfl
  · intro a
    match a with
    | ⟨0, _⟩ => rfl

theorem weights_apply (s : FVec Ideal S2x32x256x256 .f32) (b : Fin 2) (H : Fin 32) (i j : Fin 256) :
    weights s (ix4 b H i j) = wt (fun k => s (ix4 b H i k)) j := by
  unfold weights wt
  rw [select_apply, any_apply, select_one, hostDivf_apply, powers_apply, spread_apply, select_apply, any_unit_apply, select_one, unit_apply, rowSum_apply]
  exact congrArg _ (Finset.sum_congr rfl fun k _ => powers_apply s b H i k)

/-! ## Products -/

/-- Column `d` of head `H` among all columns. -/
def col (H : Fin 32) (d : Fin 64) : Fin 2048 := ⟨64 * H.val + d.val, by omega⟩

theorem queries_apply (x : FVec Ideal S2x256x512 .f32) (wq : FVec Ideal S512x2048 .f32) (b : Fin 2) (i : Fin 256) (H : Fin 32) (d : Fin 64) :
    queries x wq (ix4 b i H d) = ∑ k : Fin 512, x (ix3 b i k) * wq (ix2 k (col H d)) := by
  unfold queries
  refine (shapeCast_apply _ _ _ (ix3 b i (col H d)) ?_).trans ?_
  · rw [Shape.rowMajor_val_four, Shape.rowMajor_val_three]
    show (b.val * 256 + i.val) * 2048 + (64 * H.val + d.val) = ((b.val * 256 + i.val) * 32 + H.val) * 64 + d.val
    omega
  · refine (Ideal.dotGeneral_apply _ _ _ _ _ _).trans (contr_sum _ 512 rfl rfl _ _ _ (fun k => ix3 b i k) (fun k => ix2 k (col H d)) ?_ ?_)
    · intro k q hq; funext a; apply Fin.ext
      match a with
      | ⟨0, _⟩ => rfl
      | ⟨1, _⟩ => rfl
      | ⟨2, _⟩ => exact hq
    · intro k q hq; funext a; apply Fin.ext
      match a with
      | ⟨0, _⟩ => exact hq
      | ⟨1, _⟩ => rfl

theorem scored_apply (q k : FVec Ideal S2x256x32x64 .f32) (b : Fin 2) (H : Fin 32) (i j : Fin 256) :
    scored q k (ix4 b H i j) = line i (fun d => q (ix4 b i H d)) (fun j d => k (ix4 b j H d)) j := by
  unfold scored line
  have hm : broadcastInDim S2x32x256x256 ![0, 1, 2, 3] bcast_S1x1x256x256_S2x32x256x256_0_1_2_3 (broadcastInDim S1x1x256x256 ![2, 3] bcast_S256x256_S1x1x256x256_2_3 mask) (ix4 b H i j) = keep i j := by
    refine ((broadcastInDim_apply _ _ _ _ (ix4 (0 : Fin 1) (0 : Fin 1) i j) ?_).trans (broadcastInDim_apply _ _ _ _ (ix2 i j) ?_)).trans (mask_apply i j)
    · intro a
      match a with
      | ⟨0, _⟩ => rfl
      | ⟨1, _⟩ => rfl
      | ⟨2, _⟩ => rfl
      | ⟨3, _⟩ => rfl
    · intro a
      match a with
      | ⟨0, _⟩ => rfl
      | ⟨1, _⟩ => rfl
  have hd : (Host.dotGeneral dot_S2x256x32x64_S2x256x32x64_S2x32x256x256_3_3_1_1_02_02 none q k : FVec Ideal S2x32x256x256 .f32) (ix4 b H i j)
      = ∑ d : Fin 64, q (ix4 b i H d) * k (ix4 b j H d) := by
    refine (Ideal.dotGeneral_apply _ _ _ _ _ _).trans (contr_sum _ 64 rfl rfl _ _ _ (fun d => ix4 b i H d) (fun d => ix4 b j H d) ?_ ?_)
    · intro k q hq; funext a; apply Fin.ext
      match a with
      | ⟨0, _⟩ => rfl
      | ⟨1, _⟩ => rfl
      | ⟨2, _⟩ => rfl
      | ⟨3, _⟩ => exact hq
    · intro k q hq; funext a; apply Fin.ext
      match a with
      | ⟨0, _⟩ => rfl
      | ⟨1, _⟩ => rfl
      | ⟨2, _⟩ => rfl
      | ⟨3, _⟩ => exact hq
  rw [select_apply, hm, mulf_apply, hd]
  rfl

theorem heads_apply (w : FVec Ideal S2x32x256x256 .f32) (v : FVec Ideal S2x256x32x64 .f32) (b : Fin 2) (i : Fin 256) (H : Fin 32) (d : Fin 64) :
    heads w v (ix3 b i (col H d)) = ∑ j : Fin 256, w (ix4 b H i j) * v (ix4 b j H d) := by
  unfold heads
  refine (shapeCast_apply _ _ _ (ix4 b i H d) ?_).trans ((transpose_apply _ _ _ _ (ix4 b H d i) ?_).trans ?_)
  · rw [Shape.rowMajor_val_four, Shape.rowMajor_val_three]
    show ((b.val * 256 + i.val) * 32 + H.val) * 64 + d.val = (b.val * 256 + i.val) * 2048 + (64 * H.val + d.val)
    omega
  · intro a
    match a with
    | ⟨0, _⟩ => rfl
    | ⟨1, _⟩ => rfl
    | ⟨2, _⟩ => rfl
    | ⟨3, _⟩ => rfl
  · refine ((Ideal.dotGeneral_apply _ _ _ _ _ _).trans (contr_sum _ 256 rfl rfl _ _ _ (fun j => ix4 b j H d) (fun j => ix4 b H i j) ?_ ?_)).trans
      (Finset.sum_congr rfl fun j _ => mul_comm _ _)
    · intro k q hq; funext a; apply Fin.ext
      match a with
      | ⟨0, _⟩ => rfl
      | ⟨1, _⟩ => exact hq
      | ⟨2, _⟩ => rfl
      | ⟨3, _⟩ => rfl
    · intro k q hq; funext a; apply Fin.ext
      match a with
      | ⟨0, _⟩ => rfl
      | ⟨1, _⟩ => rfl
      | ⟨2, _⟩ => rfl
      | ⟨3, _⟩ => exact hq

/-- The sum over all columns, head by head. -/
theorem sum_cols (f : Fin 2048 → EReal) : (∑ k : Fin 2048, f k) = ∑ H : Fin 32, ∑ d : Fin 64, f (col H d) := by
  rw [← Equiv.sum_comp (finProdFinEquiv (m := 32) (n := 64)) f, Fintype.sum_prod_type]
  refine Finset.sum_congr rfl fun H _ => Finset.sum_congr rfl fun d _ => congrArg f (Fin.ext ?_)
  show d.val + 64 * H.val = 64 * H.val + d.val
  omega

/-- The reference's result at an index. -/
theorem result_apply (x : FVec Ideal S2x256x512 .f32) (wq : FVec Ideal S512x2048 .f32) (k v : FVec Ideal S2x256x32x64 .f32) (wo : FVec Ideal S2048x512 .f32)
    (b : Fin 2) (i : Fin 256) (n : Fin 512) :
    result x wq k v wo (ix3 b i n) = ∑ H : Fin 32, ∑ d : Fin 64,
      attn i (fun d => ∑ l : Fin 512, x (ix3 b i l) * wq (ix2 l (col H d))) (fun j d => k (ix4 b j H d)) (fun j d => v (ix4 b j H d)) d
        * wo (ix2 (col H d) n) := by
  unfold result
  refine (Ideal.dotGeneral_apply _ _ _ _ _ _).trans ((contr_sum _ 2048 rfl rfl _ _ _ (fun k => ix3 b i k) (fun k => ix2 k n) ?_ ?_).trans ?_)
  · intro k q hq; funext a; apply Fin.ext
    match a with
    | ⟨0, _⟩ => rfl
    | ⟨1, _⟩ => rfl
    | ⟨2, _⟩ => exact hq
  · intro k q hq; funext a; apply Fin.ext
    match a with
    | ⟨0, _⟩ => exact hq
    | ⟨1, _⟩ => rfl
  rw [sum_cols]
  refine Finset.sum_congr rfl fun H _ => Finset.sum_congr rfl fun d _ => ?_
  rw [heads_apply]
  refine congrArg (· * wo (ix2 (col H d) n)) ?_
  unfold attn
  refine Finset.sum_congr rfl fun j _ => congrArg (· * v (ix4 b j H d)) ?_
  rw [weights_apply]
  refine congrArg (fun r => wt r j) (funext fun e => ?_)
  rw [scored_apply]
  exact congrArg (fun q => line i q _ e) (funext fun d => queries_apply x wq b i H d)

end Cert.Exchange.Whole
-- ==== Proof.Algebraic.lean ====
/-
The kernel's result over the extended reals is the reference's: the devices' partial products, summed, are the output
projection of all heads (`value`), and with both programs' runs that is the claim (`algebraic`).
-/
module

public import proofs.«01_k».proof.Defs
public import proofs.«01_k».proof.Proof.Run
public import proofs.«01_k».proof.Proof.Slices
public import proofs.«01_k».proof.Proof.RefValue
public import Idealize.ShloMosaic.Lib.LayoutAt

@[expose] public section

noncomputable section

namespace Cert.Exchange

open Cert.KernelIdeal Cert.KernelIdeal.Gen

open Idealize.ShloMosaic hiding ix1 ix2 ix3 ix4 eq_ix3 truncf_apply extf_apply
open Idealize.ShloMosaic.TcCoe
open Idealize.ShloMosaic.ValueIdx
open Idealize.SL.Sem
open scoped BigOperators

/-! ## The sum over devices -/

theorem emb_inRow (f : S512x512.Idx) : (rowRect (devOf f)).emb (inRow f) = f := by
  refine Shape.idx_ext₂ ?_ ?_
  · rw [ValueKit.rect_emb_unit_val]
    show 64 * ((f 0).val / 64) + (f 0).val % 64 = (f 0).val
    omega
  · rw [ValueKit.rect_emb_unit_val]
    exact Nat.zero_add _

/-- The result is the sum of all devices' partial products. -/
theorem outOf_apply (P : Dev nD → Vec Ideal S512x512 .bf16) (i : S2x256x512.Idx) : outOf P i = ∑ e : Dev nD, (P e (flatIx i) : EReal) := by
  have hp : ∀ e : Dev nD, piece P e (devOf (flatIx i)) (inRow (flatIx i)) = P e (flatIx i) := fun e => congrArg (P e) (emb_inRow _)
  generalize hc : devOf (flatIx i) = c at hp
  have hs : (∑ j : Fin 8, (P (og c j) (flatIx i) : EReal)) = ∑ e : Dev nD, (P e (flatIx i) : EReal) :=
    Equiv.sum_comp (ogAll c) fun e => (P e (flatIx i) : EReal)
  rw [← hs, Fin.sum_univ_eight, og_zero]
  show gathered P (flatIx i) = _
  unfold gathered
  rw [hc]
  show ((((((((piece P c c (inRow (flatIx i)) : EReal) + piece P (og c 1) c (inRow (flatIx i))) + piece P (og c 2) c (inRow (flatIx i)))
    + piece P (og c 3) c (inRow (flatIx i))) + piece P (og c 4) c (inRow (flatIx i))) + piece P (og c 5) c (inRow (flatIx i)))
    + piece P (og c 6) c (inRow (flatIx i))) + piece P (og c 7) c (inRow (flatIx i))) = _
  simp only [hp]

/-- Head `h` of device `e` among all heads. -/
def headAt (e : Dev nD) (h : Fin 4) : Fin 32 := ⟨4 * e.val + h.val, by have : e.val < 8 := e.isLt; omega⟩

/-- A sum over all 32 heads, split into the devices and the four heads of each. -/
theorem sum_heads (f : Fin 32 → EReal) : (∑ H : Fin 32, f H) = ∑ e : Dev nD, ∑ h : Fin 4, f (headAt e h) := by
  rw [← Equiv.sum_comp (finProdFinEquiv (m := 8) (n := 4)) f, Fintype.sum_prod_type]
  refine Finset.sum_congr rfl fun e _ => Finset.sum_congr rfl fun h _ => congrArg f (Fin.ext ?_)
  show h.val + 4 * e.val = 4 * e.val + h.val
  omega

/-- Column `d` of head `h` of device `e` is column `64 h + d` of the device's own 256 columns. -/
theorem col_val (e : Dev nD) (h : Fin 4) (d : Fin 64) : (Whole.col (headAt e h) d).val = 256 * e.val + (col h d).val := by
  show 64 * (4 * e.val + h.val) + d.val = 256 * e.val + (64 * h.val + d.val)
  omega

/-- A device's block of the keys or values. -/
theorem block_at (v : (⟨4, ![2, 256, 32, 64]⟩ : Shape).Idx → EReal) (e : Dev nD) (b : Fin 2) (j : Fin 256) (h : Fin 4) (d : Fin 64) :
    Layout.block ⟨4, ![2, 256, 4, 64]⟩ ⟨4, ![2, 256, 32, 64]⟩ 2 8 e v (by decide) (ix4 b j h d) = v (ix4 b j (headAt e h) d) := by
  rw [Layout.block_apply]
  refine congrArg v (funext fun a => Fin.ext ?_)
  rw [Layout.Tiles.idx_val]
  match a with
  | ⟨0, _⟩ => rfl
  | ⟨1, _⟩ => rfl
  | ⟨2, _⟩ => show e.val * 4 + h.val = 4 * e.val + h.val; omega
  | ⟨3, _⟩ => rfl

/-! ## The two results -/

section

variable (m : (ℓ : Loc nD τ sig) → Buf (Elt Ideal) ℓ)
  (x : FVec Ideal S2x256x512 .f32) (wq : FVec Ideal S512x2048 .f32) (k v : FVec Ideal ⟨4, ![2, 256, 32, 64]⟩ .f32) (wo : FVec Ideal S2048x512 .f32)

/-- The sum of the devices' partial products is the reference's result, where the devices hold the whole `x`, `wq` and `wo` and
    their own blocks of heads of `k` and `v`. -/
theorem value
    (h0 : ∀ c : Dev nD, m ((c.tc : Thread nD τ).loc main_arg0) = x) (h1 : ∀ c : Dev nD, m ((c.tc : Thread nD τ).loc main_arg1) = wq)
    (h2 : ∀ c : Dev nD, m ((c.tc : Thread nD τ).loc main_arg2) = Layout.block ⟨4, ![2, 256, 4, 64]⟩ ⟨4, ![2, 256, 32, 64]⟩ 2 8 c k)
    (h3 : ∀ c : Dev nD, m ((c.tc : Thread nD τ).loc main_arg3) = Layout.block ⟨4, ![2, 256, 4, 64]⟩ ⟨4, ![2, 256, 32, 64]⟩ 2 8 c v)
    (h4 : ∀ c : Dev nD, m ((c.tc : Thread nD τ).loc main_arg4) = wo) :
    outOf (PP m) = Whole.result x wq k v wo := by
  suffices h : ∀ (b : Fin 2) (r : Fin 256) (n : Fin 512), outOf (PP m) (ix3 b r n) = Whole.result x wq k v wo (ix3 b r n) from
    funext fun i => (congrArg (outOf (PP m)) (eq_ix3 i)).trans ((h (i 0) (i 1) (i 2)).trans (congrArg (Whole.result x wq k v wo) (eq_ix3 i)).symm)
  intro b r n
  rw [outOf_apply]
  refine Eq.trans (Finset.sum_congr rfl fun e _ => ?_) ((Whole.result_apply x wq k v wo b r n).trans (sum_heads _)).symm
  unfold PP
  refine (partOf_apply _ _ _ _ _ b r n).trans (Finset.sum_congr rfl fun h _ => Finset.sum_congr rfl fun d _ => ?_)
  have e0 : (V1 m e main_arg0 : FVec Ideal S2x256x512 .f32) = x := (V1_of m e main_arg0 (by decide)).trans (h0 e)
  have e1 : ∀ (l : Fin 512) (d : Fin 64), (V1 m e main_v9 : FVec Ideal S512x256 .f32) (ix2 l (col h d)) = wq (ix2 l (Whole.col (headAt e h) d)) :=
    fun l d => (columns_apply m e l (col h d) _ (col_val e h d)).trans (congrFun (h1 e) _)
  have e2 : ∀ (j : Fin 256) (d : Fin 64), (V1 m e main_arg2 : FVec Ideal S2x256x4x64 .f32) (ix4 b j h d) = k (ix4 b j (headAt e h) d) :=
    fun j d => (congrFun ((V1_of m e main_arg2 (by decide)).trans (h2 e)) _).trans (block_at k e b j h d)
  have e3 : ∀ (j : Fin 256) (d : Fin 64), (V1 m e main_arg3 : FVec Ideal S2x256x4x64 .f32) (ix4 b j h d) = v (ix4 b j (headAt e h) d) :=
    fun j d => (congrFun ((V1_of m e main_arg3 (by decide)).trans (h3 e)) _).trans (block_at v e b j h d)
  have e4 : (V1 m e main_v14 : FVec Ideal S256x512 .f32) (ix2 (col h d) n) = wo (ix2 (Whole.col (headAt e h) d) n) :=
    (rows_apply m e (col h d) n _ (col_val e h d)).trans (congrFun (h4 e) _)
  simp only [e0, e1, e2, e3, e4]

end

/-- Over the extended reals every device's result is the reference's, from any start. -/
theorem algebraic : Cert.algebraic_KernelIdeal_ReferenceIdeal (hKernelIdeal := Cert.KernelIdeal.Gen.facts) (hReferenceIdeal := Cert.ReferenceIdeal.Gen.facts) := by
  intro m g m' g' _ hag
  refine ⟨Cert.ReferenceIdeal.Value.res_out0 m' 0, (θ_run Cert.KernelIdeal.defs _ _).mono (fun _ h c => ⟨(h.1 c).1.trans ?_, (h.1 c).2⟩) (run_main (F := Ideal) m g),
    (θ_run Cert.ReferenceIdeal.defs _ _).mono (fun _ h => h 0) (Cert.ReferenceIdeal.Value.run (F := Ideal) m' g')⟩
  exact (value m _ _ _ _ _ (fun c => (hag c).1) (fun c => (hag c).2.1) (fun c => (hag c).2.2.1) (fun c => (hag c).2.2.2.1) (fun c => (hag c).2.2.2.2)).trans
    (Whole.result_eq m' 0).symm

end Cert.Exchange
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The idealization rewrites no operation. -/
theorem preserves : Cert.preserves_Kernel_KernelIdeal := trivial

/-- All five claims. -/
theorem claim : Cert.Claim := ⟨Cert.Kernel.Gen.facts, Cert.KernelIdeal.Gen.facts, Cert.ReferenceIdeal.Gen.facts,
  Cert.Exchange.frame_kernel, Cert.Exchange.frame_kernelIdeal, Cert.Exchange.frame_referenceIdeal, preserves,
  Cert.Exchange.algebraic⟩

end Cert.Proof

end
